-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def preserves_Kernel_KernelIdeal : Prop :=
  IdealRules.named_const.Statement Cert.KernelIdeal.κ "gelu_cubic" .f32 0x3E922279#32 ((80338380498831 / 281474976710656 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v48)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v48) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
-- ==== Pre_finite.lean ====
abbrev S32x2048x1024 : Shape := ⟨3, ![32, 2048, 1024]⟩
abbrev S32x4096x256 : Shape := ⟨3, ![32, 4096, 256]⟩
abbrev S1x1024 : Shape := ⟨2, ![1, 1024]⟩
abbrev S1x1024x6144 : Shape := ⟨3, ![1, 1024, 6144]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S1x512x1024 : Shape := ⟨3, ![1, 512, 1024]⟩
abbrev S1024 : Shape := ⟨1, ![1024]⟩
abbrev S_ : Shape := ⟨0, ![]⟩

class Facts : Prop where
  bitsLt_bf16_f32 : FTy.bits .bf16 < FTy.bits .f32
  bcast_S_S32x4096x256 : S_.BroadcastsInDim S32x4096x256 (![] : Fin 0 → Fin S32x4096x256.rank)
  bcast_S_S1x1024 : S_.BroadcastsInDim S1x1024 (![] : Fin 0 → Fin S1x1024.rank)
  bcast_S_S1x1024x6144 : S_.BroadcastsInDim S1x1024x6144 (![] : Fin 0 → Fin S1x1024x6144.rank)
  bcast_S_S1x8x128x128 : S_.BroadcastsInDim S1x8x128x128 (![] : Fin 0 → Fin S1x8x128x128.rank)
  bcast_S_S1x8x128 : S_.BroadcastsInDim S1x8x128 (![] : Fin 0 → Fin S1x8x128.rank)
  bcast_S_S1x1024x1024 : S_.BroadcastsInDim S1x1024x1024 (![] : Fin 0 → Fin S1x1024x1024.rank)
  bcast_S_S1x512x1024 : S_.BroadcastsInDim S1x512x1024 (![] : Fin 0 → Fin S1x512x1024.rank)

variable [Facts]

def fn_part3 {F : FTy → Type} [FloatOps F] (main_arg10 : FVec F S1x512x1024 .f32) (main_v6 : IVec S32x4096x256 1) (main_v12 : IVec S1x1024 1) (main_v18 : IVec S1x1024x6144 1) (main_v24 : IVec S1x1024 1) (main_v30 : IVec S1x1024 1) (main_v36 : IVec S1x8x128x128 1) (main_v42 : IVec S1x8x128 1) (main_v48 : IVec S1x1024x1024 1) (main_v50 : IVec S1x512x1024 1) (main_v53 : IVec S1x512x1024 1) : IVec S32x4096x256 1 × IVec S1x1024 1 × IVec S1x1024x6144 1 × IVec S1x1024 1 × IVec S1x1024 1 × IVec S1x8x128x128 1 × IVec S1x8x128 1 × IVec S1x1024x1024 1 × IVec S1x512x1024 1 × IVec S1x512x1024 1 :=
  let main_v54 : IVec S1x512x1024 1 := andi main_v50 main_v53
  let main_cst_17 : FVec F S_ .f32 := constant S_ .f32 0x7F800000#32
  let main_v55 : FVec F S1x512x1024 .f32 := broadcastInDim S1x512x1024 ![] bcast_S_S1x512x1024 main_cst_17
  let main_v56 : IVec S1x512x1024 1 := cmpf .olt main_arg10 main_v55
  let main_cst_18 : FVec F S_ .f32 := constant S_ .f32 0x7F800000#32
  let main_v57 : FVec F S_ .f32 := Host.negf main_cst_18
  let main_v58 : FVec F S1x512x1024 .f32 := broadcastInDim S1x512x1024 ![] bcast_S_S1x512x1024 main_v57
  let main_v59 : IVec S1x512x1024 1 := cmpf .ogt main_arg10 main_v58
  let main_v60 : IVec S1x512x1024 1 := andi main_v56 main_v59
  (main_v6, main_v12, main_v18, main_v24, main_v30, main_v36, main_v42, main_v48, main_v54, main_v60)

def fn_part2 {F : FTy → Type} [FloatOps F] (main_arg7 : FVec F S1x8x128 .f32) (main_arg8 : FVec F S1x1024x1024 .f32) (main_arg9 : FVec F S1x512x1024 .f32) (main_arg10 : FVec F S1x512x1024 .f32) (main_v6 : IVec S32x4096x256 1) (main_v12 : IVec S1x1024 1) (main_v18 : IVec S1x1024x6144 1) (main_v24 : IVec S1x1024 1) (main_v30 : IVec S1x1024 1) (main_v32 : IVec S1x8x128x128 1) (main_v35 : IVec S1x8x128x128 1) : IVec S32x4096x256 1 × IVec S1x1024 1 × IVec S1x1024x6144 1 × IVec S1x1024 1 × IVec S1x1024 1 × IVec S1x8x128x128 1 × IVec S1x8x128 1 × IVec S1x1024x1024 1 × IVec S1x512x1024 1 × IVec S1x512x1024 1 :=
  let main_v36 : IVec S1x8x128x128 1 := andi main_v32 main_v35
  let main_cst_11 : FVec F S_ .f32 := constant S_ .f32 0x7F800000#32
  let main_v37 : FVec F S1x8x128 .f32 := broadcastInDim S1x8x128 ![] bcast_S_S1x8x128 main_cst_11
  let main_v38 : IVec S1x8x128 1 := cmpf .olt main_arg7 main_v37
  let main_cst_12 : FVec F S_ .f32 := constant S_ .f32 0x7F800000#32
  let main_v39 : FVec F S_ .f32 := Host.negf main_cst_12
  let main_v40 : FVec F S1x8x128 .f32 := broadcastInDim S1x8x128 ![] bcast_S_S1x8x128 main_v39
  let main_v41 : IVec S1x8x128 1 := cmpf .ogt main_arg7 main_v40
  let main_v42 : IVec S1x8x128 1 := andi main_v38 main_v41
  let main_cst_13 : FVec F S_ .f32 := constant S_ .f32 0x7F800000#32
  let main_v43 : FVec F S1x1024x1024 .f32 := broadcastInDim S1x1024x1024 ![] bcast_S_S1x1024x1024 main_cst_13
  let main_v44 : IVec S1x1024x1024 1 := cmpf .olt main_arg8 main_v43
  let main_cst_14 : FVec F S_ .f32 := constant S_ .f32 0x7F800000#32
  let main_v45 : FVec F S_ .f32 := Host.negf main_cst_14
  let main_v46 : FVec F S1x1024x1024 .f32 := broadcastInDim S1x1024x1024 ![] bcast_S_S1x1024x1024 main_v45
  let main_v47 : IVec S1x1024x1024 1 := cmpf .ogt main_arg8 main_v46
  let main_v48 : IVec S1x1024x1024 1 := andi main_v44 main_v47
  let main_cst_15 : FVec F S_ .f32 := constant S_ .f32 0x7F800000#32
  let main_v49 : FVec F S1x512x1024 .f32 := broadcastInDim S1x512x1024 ![] bcast_S_S1x512x1024 main_cst_15
  let main_v50 : IVec S1x512x1024 1 := cmpf .olt main_arg9 main_v49
  let main_cst_16 : FVec F S_ .f32 := constant S_ .f32 0x7F800000#32
  let main_v51 : FVec F S_ .f32 := Host.negf main_cst_16
  let main_v52 : FVec F S1x512x1024 .f32 := broadcastInDim S1x512x1024 ![] bcast_S_S1x512x1024 main_v51
  let main_v53 : IVec S1x512x1024 1 := cmpf .ogt main_arg9 main_v52
  fn_part3 (F := F) main_arg10 main_v6 main_v12 main_v18 main_v24 main_v30 main_v36 main_v42 main_v48 main_v50 main_v53

def fn_part1 {F : FTy → Type} [FloatOps F] (main_arg4 : FVec F S1x1024 .f32) (main_arg5 : FVec F S1x1024 .f32) (main_arg6 : FVec F S1x8x128x128 .f32) (main_arg7 : FVec F S1x8x128 .f32) (main_arg8 : FVec F S1x1024x1024 .f32) (main_arg9 : FVec F S1x512x1024 .f32) (main_arg10 : FVec F S1x512x1024 .f32) (main_v6 : IVec S32x4096x256 1) (main_v12 : IVec S1x1024 1) (main_v14 : IVec S1x1024x6144 1) (main_v17 : IVec S1x1024x6144 1) : IVec S32x4096x256 1 × IVec S1x1024 1 × IVec S1x1024x6144 1 × IVec S1x1024 1 × IVec S1x1024 1 × IVec S1x8x128x128 1 × IVec S1x8x128 1 × IVec S1x1024x1024 1 × IVec S1x512x1024 1 × IVec S1x512x1024 1 :=
  let main_v18 : IVec S1x1024x6144 1 := andi main_v14 main_v17
  let main_cst_5 : FVec F S_ .f32 := constant S_ .f32 0x7F800000#32
  let main_v19 : FVec F S1x1024 .f32 := broadcastInDim S1x1024 ![] bcast_S_S1x1024 main_cst_5
  let main_v20 : IVec S1x1024 1 := cmpf .olt main_arg4 main_v19
  let main_cst_6 : FVec F S_ .f32 := constant S_ .f32 0x7F800000#32
  let main_v21 : FVec F S_ .f32 := Host.negf main_cst_6
  let main_v22 : FVec F S1x1024 .f32 := broadcastInDim S1x1024 ![] bcast_S_S1x1024 main_v21
  let main_v23 : IVec S1x1024 1 := cmpf .ogt main_arg4 main_v22
  let main_v24 : IVec S1x1024 1 := andi main_v20 main_v23
  let main_cst_7 : FVec F S_ .f32 := constant S_ .f32 0x7F800000#32
  let main_v25 : FVec F S1x1024 .f32 := broadcastInDim S1x1024 ![] bcast_S_S1x1024 main_cst_7
  let main_v26 : IVec S1x1024 1 := cmpf .olt main_arg5 main_v25
  let main_cst_8 : FVec F S_ .f32 := constant S_ .f32 0x7F800000#32
  let main_v27 : FVec F S_ .f32 := Host.negf main_cst_8
  let main_v28 : FVec F S1x1024 .f32 := broadcastInDim S1x1024 ![] bcast_S_S1x1024 main_v27
  let main_v29 : IVec S1x1024 1 := cmpf .ogt main_arg5 main_v28
  let main_v30 : IVec S1x1024 1 := andi main_v26 main_v29
  let main_cst_9 : FVec F S_ .f32 := constant S_ .f32 0x7F800000#32
  let main_v31 : FVec F S1x8x128x128 .f32 := broadcastInDim S1x8x128x128 ![] bcast_S_S1x8x128x128 main_cst_9
  let main_v32 : IVec S1x8x128x128 1 := cmpf .olt main_arg6 main_v31
  let main_cst_10 : FVec F S_ .f32 := constant S_ .f32 0x7F800000#32
  let main_v33 : FVec F S_ .f32 := Host.negf main_cst_10
  let main_v34 : FVec F S1x8x128x128 .f32 := broadcastInDim S1x8x128x128 ![] bcast_S_S1x8x128x128 main_v33
  let main_v35 : IVec S1x8x128x128 1 := cmpf .ogt main_arg6 main_v34
  fn_part2 (F := F) main_arg7 main_arg8 main_arg9 main_arg10 main_v6 main_v12 main_v18 main_v24 main_v30 main_v32 main_v35

def fn {F : FTy → Type} [FloatOps F] (main_arg0 : FVec F S32x2048x1024 .f32) (main_arg1 : FVec F S32x4096x256 .bf16) (main_arg2 : FVec F S1x1024 .f32) (main_arg3 : FVec F S1x1024x6144 .f32) (main_arg4 : FVec F S1x1024 .f32) (main_arg5 : FVec F S1x1024 .f32) (main_arg6 : FVec F S1x8x128x128 .f32) (main_arg7 : FVec F S1x8x128 .f32) (main_arg8 : FVec F S1x1024x1024 .f32) (main_arg9 : FVec F S1x512x1024 .f32) (main_arg10 : FVec F S1x512x1024 .f32) (main_arg11 : FVec F S1x1024x1024 .f32) (main_arg12 : FVec F S1024 .f32) : IVec S32x4096x256 1 × IVec S1x1024 1 × IVec S1x1024x6144 1 × IVec S1x1024 1 × IVec S1x1024 1 × IVec S1x8x128x128 1 × IVec S1x8x128 1 × IVec S1x1024x1024 1 × IVec S1x512x1024 1 × IVec S1x512x1024 1 :=
  let main_v0 : FVec F S32x4096x256 .f32 := (extf .f32 · bitsLt_bf16_f32) main_arg1
  let main_cst : FVec F S_ .f32 := constant S_ .f32 0x7F800000#32
  let main_v1 : FVec F S32x4096x256 .f32 := broadcastInDim S32x4096x256 ![] bcast_S_S32x4096x256 main_cst
  let main_v2 : IVec S32x4096x256 1 := cmpf .olt main_v0 main_v1
  let main_cst_0 : FVec F S_ .f32 := constant S_ .f32 0x7F800000#32
  let main_v3 : FVec F S_ .f32 := Host.negf main_cst_0
  let main_v4 : FVec F S32x4096x256 .f32 := broadcastInDim S32x4096x256 ![] bcast_S_S32x4096x256 main_v3
  let main_v5 : IVec S32x4096x256 1 := cmpf .ogt main_v0 main_v4
  let main_v6 : IVec S32x4096x256 1 := andi main_v2 main_v5
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_arg2 main_v7
  let main_cst_2 : FVec F S_ .f32 := constant S_ .f32 0x7F800000#32
  let main_v9 : FVec F S_ .f32 := Host.negf main_cst_2
  let main_v10 : FVec F S1x1024 .f32 := broadcastInDim S1x1024 ![] bcast_S_S1x1024 main_v9
  let main_v11 : IVec S1x1024 1 := cmpf .ogt main_arg2 main_v10
  let main_v12 : IVec S1x1024 1 := andi main_v8 main_v11
  let main_cst_3 : FVec F S_ .f32 := constant S_ .f32 0x7F800000#32
  let main_v13 : FVec F S1x1024x6144 .f32 := broadcastInDim S1x1024x6144 ![] bcast_S_S1x1024x6144 main_cst_3
  let main_v14 : IVec S1x1024x6144 1 := cmpf .olt main_arg3 main_v13
  let main_cst_4 : FVec F S_ .f32 := constant S_ .f32 0x7F800000#32
  let main_v15 : FVec F S_ .f32 := Host.negf main_cst_4
  let main_v16 : FVec F S1x1024x6144 .f32 := broadcastInDim S1x1024x6144 ![] bcast_S_S1x1024x6144 main_v15
  let main_v17 : IVec S1x1024x6144 1 := cmpf .ogt main_arg3 main_v16
  fn_part1 (F := F) main_arg4 main_arg5 main_arg6 main_arg7 main_arg8 main_arg9 main_arg10 main_v6 main_v12 main_v14 main_v17
-- ==== Kernel.lean ====
abbrev S32x2048x1024 : Shape := ⟨3, ![32, 2048, 1024]⟩
abbrev S32x4096x256 : Shape := ⟨3, ![32, 4096, 256]⟩
abbrev S1x1024 : Shape := ⟨2, ![1, 1024]⟩
abbrev S1x1024x6144 : Shape := ⟨3, ![1, 1024, 6144]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S1x512x1024 : Shape := ⟨3, ![1, 512, 1024]⟩
abbrev S1024 : Shape := ⟨1, ![1024]⟩
abbrev S6144 : Shape := ⟨1, ![6144]⟩
abbrev S_ : Shape := ⟨0, ![]⟩
abbrev S1024x6144 : Shape := ⟨2, ![1024, 6144]⟩
abbrev S1x6144 : Shape := ⟨2, ![1, 6144]⟩
abbrev S128x128 : Shape := ⟨2, ![128, 128]⟩
abbrev S1x128x128 : Shape := ⟨3, ![1, 128, 128]⟩
abbrev S8x128x128 : Shape := ⟨3, ![8, 128, 128]⟩
abbrev S8x128 : Shape := ⟨2, ![8, 128]⟩
abbrev S128x8 : Shape := ⟨2, ![128, 8]⟩
abbrev S128x8x128 : Shape := ⟨3, ![128, 8, 128]⟩
abbrev S128x1024 : Shape := ⟨2, ![128, 1024]⟩
abbrev S1024x1024 : Shape := ⟨2, ![1024, 1024]⟩
abbrev S512x1024 : Shape := ⟨2, ![512, 1024]⟩
abbrev S8x128x1024 : Shape := ⟨3, ![8, 128, 1024]⟩
abbrev S32x64x256 : Shape := ⟨3, ![32, 64, 256]⟩
abbrev S2x512x1024 : Shape := ⟨3, ![2, 512, 1024]⟩
abbrev S2x4x640x128 : Shape := ⟨4, ![2, 4, 640, 128]⟩
abbrev S4x128x1024 : Shape := ⟨3, ![4, 128, 1024]⟩
abbrev S512 : Shape := ⟨1, ![512]⟩
abbrev S512x1 : Shape := ⟨2, ![512, 1]⟩
abbrev S1x32x128 : Shape := ⟨3, ![1, 32, 128]⟩
abbrev S32x128 : Shape := ⟨2, ![32, 128]⟩
abbrev S1x128 : Shape := ⟨2, ![1, 128]⟩
abbrev S1x4x640x128 : Shape := ⟨4, ![1, 4, 640, 128]⟩
abbrev S4x640x128 : Shape := ⟨3, ![4, 640, 128]⟩
abbrev S128x512 : Shape := ⟨2, ![128, 512]⟩
abbrev S1x16x128 : Shape := ⟨3, ![1, 16, 128]⟩
abbrev S16x128 : Shape := ⟨2, ![16, 128]⟩
abbrev S512x128 : Shape := ⟨2, ![512, 128]⟩
abbrev S512x512 : Shape := ⟨2, ![512, 512]⟩
abbrev S1024x512 : Shape := ⟨2, ![1024, 512]⟩

abbrev nBuf : Space → Nat
  | .hbm => 91
  | .vmem => 20
  | .smem => 0
  | _ => 0

abbrev bufTy : (tb : Table) → Fin (tcTables nBuf tb) → BufTy
  | .hbm, ⟨0, _⟩ => ⟨S32x2048x1024, .f32⟩
  | .hbm, ⟨1, _⟩ => ⟨S32x4096x256, .bf16⟩
  | .hbm, ⟨2, _⟩ => ⟨S1x1024, .f32⟩
  | .hbm, ⟨3, _⟩ => ⟨S1x1024x6144, .f32⟩
  | .hbm, ⟨4, _⟩ => ⟨S1x1024, .f32⟩
  | .hbm, ⟨5, _⟩ => ⟨S1x1024, .f32⟩
  | .hbm, ⟨6, _⟩ => ⟨S1x8x128x128, .f32⟩
  | .hbm, ⟨7, _⟩ => ⟨S1x8x128, .f32⟩
  | .hbm, ⟨8, _⟩ => ⟨S1x1024x1024, .f32⟩
  | .hbm, ⟨9, _⟩ => ⟨S1x512x1024, .f32⟩
  | .hbm, ⟨10, _⟩ => ⟨S1x512x1024, .f32⟩
  | .hbm, ⟨11, _⟩ => ⟨S1x1024x1024, .f32⟩
  | .hbm, ⟨12, _⟩ => ⟨S1024, .f32⟩
  | .hbm, ⟨13, _⟩ => ⟨S6144, .i32⟩
  | .hbm, ⟨14, _⟩ => ⟨S_, .i32⟩
  | .hbm, ⟨15, _⟩ => ⟨S6144, .i32⟩
  | .hbm, ⟨16, _⟩ => ⟨S6144, .i1⟩
  | .hbm, ⟨17, _⟩ => ⟨S_, .i32⟩
  | .hbm, ⟨18, _⟩ => ⟨S6144, .i32⟩
  | .hbm, ⟨19, _⟩ => ⟨S6144, .i1⟩
  | .hbm, ⟨20, _⟩ => ⟨S6144, .i1⟩
  | .hbm, ⟨21, _⟩ => ⟨S_, .f32⟩
  | .hbm, ⟨22, _⟩ => ⟨S_, .f32⟩
  | .hbm, ⟨23, _⟩ => ⟨S6144, .f32⟩
  | .hbm, ⟨24, _⟩ => ⟨S6144, .f32⟩
  | .hbm, ⟨25, _⟩ => ⟨S6144, .f32⟩
  | .hbm, ⟨26, _⟩ => ⟨S6144, .f32⟩
  | .hbm, ⟨27, _⟩ => ⟨S1024x6144, .f32⟩
  | .hbm, ⟨28, _⟩ => ⟨S1x6144, .f32⟩
  | .hbm, ⟨29, _⟩ => ⟨S1024x6144, .f32⟩
  | .hbm, ⟨30, _⟩ => ⟨S1024x6144, .f32⟩
  | .hbm, ⟨31, _⟩ => ⟨S1024x6144, .bf16⟩
  | .hbm, ⟨32, _⟩ => ⟨S1024, .f32⟩
  | .hbm, ⟨33, _⟩ => ⟨S1x1024, .f32⟩
  | .hbm, ⟨34, _⟩ => ⟨S_, .i1⟩
  | .hbm, ⟨35, _⟩ => ⟨S128x128, .i1⟩
  | .hbm, ⟨36, _⟩ => ⟨S128x128, .i32⟩
  | .hbm, ⟨37, _⟩ => ⟨S_, .i32⟩
  | .hbm, ⟨38, _⟩ => ⟨S128x128, .i32⟩
  | .hbm, ⟨39, _⟩ => ⟨S128x128, .i32⟩
  | .hbm, ⟨40, _⟩ => ⟨S128x128, .i32⟩
  | .hbm, ⟨41, _⟩ => ⟨S128x128, .i1⟩
  | .hbm, ⟨42, _⟩ => ⟨S_, .i1⟩
  | .hbm, ⟨43, _⟩ => ⟨S128x128, .i1⟩
  | .hbm, ⟨44, _⟩ => ⟨S128x128, .i1⟩
  | .hbm, ⟨45, _⟩ => ⟨S1x128x128, .i1⟩
  | .hbm, ⟨46, _⟩ => ⟨S8x128x128, .f32⟩
  | .hbm, ⟨47, _⟩ => ⟨S_, .i32⟩
  | .hbm, ⟨48, _⟩ => ⟨S_, .f32⟩
  | .hbm, ⟨49, _⟩ => ⟨S8x128x128, .i1⟩
  | .hbm, ⟨50, _⟩ => ⟨S8x128x128, .f32⟩
  | .hbm, ⟨51, _⟩ => ⟨S8x128x128, .f32⟩
  | .hbm, ⟨52, _⟩ => ⟨S8x128x128, .bf16⟩
  | .hbm, ⟨53, _⟩ => ⟨S8x128x128, .f32⟩
  | .hbm, ⟨54, _⟩ => ⟨S_, .f32⟩
  | .hbm, ⟨55, _⟩ => ⟨S8x128, .f32⟩
  | .hbm, ⟨56, _⟩ => ⟨S8x128, .f32⟩
  | .hbm, ⟨57, _⟩ => ⟨S128x8, .f32⟩
  | .hbm, ⟨58, _⟩ => ⟨S128x8x128, .f32⟩
  | .hbm, ⟨59, _⟩ => ⟨S128x1024, .f32⟩
  | .hbm, ⟨60, _⟩ => ⟨S128x8, .f32⟩
  | .hbm, ⟨61, _⟩ => ⟨S128x8x128, .f32⟩
  | .hbm, ⟨62, _⟩ => ⟨S128x1024, .f32⟩
  | .hbm, ⟨63, _⟩ => ⟨S1024, .f32⟩
  | .hbm, ⟨64, _⟩ => ⟨S1x1024, .f32⟩
  | .hbm, ⟨65, _⟩ => ⟨S128x1024, .f32⟩
  | .hbm, ⟨66, _⟩ => ⟨S128x1024, .f32⟩
  | .hbm, ⟨67, _⟩ => ⟨S128x1024, .f32⟩
  | .hbm, ⟨68, _⟩ => ⟨S1024, .f32⟩
  | .hbm, ⟨69, _⟩ => ⟨S1x1024, .f32⟩
  | .hbm, ⟨70, _⟩ => ⟨S1024, .f32⟩
  | .hbm, ⟨71, _⟩ => ⟨S1x1024, .f32⟩
  | .hbm, ⟨72, _⟩ => ⟨S1024x1024, .f32⟩
  | .hbm, ⟨73, _⟩ => ⟨S_, .f32⟩
  | .hbm, ⟨74, _⟩ => ⟨S1024x1024, .f32⟩
  | .hbm, ⟨75, _⟩ => ⟨S1024x1024, .f32⟩
  | .hbm, ⟨76, _⟩ => ⟨S1024x1024, .bf16⟩
  | .hbm, ⟨77, _⟩ => ⟨S512x1024, .f32⟩
  | .hbm, ⟨78, _⟩ => ⟨S_, .f32⟩
  | .hbm, ⟨79, _⟩ => ⟨S512x1024, .f32⟩
  | .hbm, ⟨80, _⟩ => ⟨S512x1024, .f32⟩
  | .hbm, ⟨81, _⟩ => ⟨S512x1024, .bf16⟩
  | .hbm, ⟨82, _⟩ => ⟨S512x1024, .f32⟩
  | .hbm, ⟨83, _⟩ => ⟨S_, .f32⟩
  | .hbm, ⟨84, _⟩ => ⟨S512x1024, .f32⟩
  | .hbm, ⟨85, _⟩ => ⟨S512x1024, .f32⟩
  | .hbm, ⟨86, _⟩ => ⟨S512x1024, .bf16⟩
  | .hbm, ⟨87, _⟩ => ⟨S1024x1024, .f32⟩
  | .hbm, ⟨88, _⟩ => ⟨S1024x1024, .bf16⟩
  | .hbm, ⟨89, _⟩ => ⟨S1x1024, .f32⟩
  | .hbm, ⟨90, _⟩ => ⟨S32x2048x1024, .f32⟩
  | .local _ .vmem, ⟨0, _⟩ => ⟨S8x128x1024, .f32⟩
  | .local _ .vmem, ⟨1, _⟩ => ⟨S8x128x1024, .f32⟩
  | .local _ .vmem, ⟨2, _⟩ => ⟨S32x64x256, .bf16⟩
  | .local _ .vmem, ⟨3, _⟩ => ⟨S32x64x256, .bf16⟩
  | .local _ .vmem, ⟨4, _⟩ => ⟨S1x1024, .f32⟩
  | .local _ .vmem, ⟨5, _⟩ => ⟨S1024x6144, .bf16⟩
  | .local _ .vmem, ⟨6, _⟩ => ⟨S1x1024, .f32⟩
  | .local _ .vmem, ⟨7, _⟩ => ⟨S1x1024, .f32⟩
  | .local _ .vmem, ⟨8, _⟩ => ⟨S8x128x128, .bf16⟩
  | .local _ .vmem, ⟨9, _⟩ => ⟨S128x1024, .f32⟩
  | .local _ .vmem, ⟨10, _⟩ => ⟨S1024x1024, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S1x1024, .f32⟩
  | .local _ .vmem, ⟨15, _⟩ => ⟨S8x128x1024, .f32⟩
  | .local _ .vmem, ⟨16, _⟩ => ⟨S8x128x1024, .f32⟩
  | .local _ .vmem, ⟨17, _⟩ => ⟨S2x512x1024, .bf16⟩
  | .local _ .vmem, ⟨18, _⟩ => ⟨S2x512x1024, .f32⟩
  | .local _ .vmem, ⟨19, _⟩ => ⟨S2x4x640x128, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c_2 : Ref sig .tc := ⟨.hbm, 34, rfl⟩
abbrev main_v15 : Ref sig .tc := ⟨.hbm, 35, rfl⟩
abbrev main_call1_v0 : Ref sig .tc := ⟨.hbm, 36, rfl⟩
abbrev main_call1_c : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_c_0 : Ref sig .tc := ⟨.hbm, 42, rfl⟩
abbrev main_call1_v5 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_c_3 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst_4 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_cst_5 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_cst_6 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_7 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x64x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x6144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S8x128x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== KernelIdeal.lean ====
variable {F : FTy → Type} [FloatOps F] [Named F]
def κ : String → Option EReal := fun
  | "gelu_cubic" => some ((80338380498831 / 281474976710656 : ℝ) : EReal)
  | _ => none
-- ==== ReferenceIdeal.lean ====
abbrev S32x2048x1024 : Shape := ⟨3, ![32, 2048, 1024]⟩
abbrev S32x4096x256 : Shape := ⟨3, ![32, 4096, 256]⟩
abbrev S1x1024 : Shape := ⟨2, ![1, 1024]⟩
abbrev S1x1024x6144 : Shape := ⟨3, ![1, 1024, 6144]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S1x512x1024 : Shape := ⟨3, ![1, 512, 1024]⟩
abbrev S1024 : Shape := ⟨1, ![1024]⟩
abbrev S32x16x32x8x16x16 : Shape := ⟨6, ![32, 16, 32, 8, 16, 16]⟩
abbrev S32x16x8x16x32x16 : Shape := ⟨6, ![32, 16, 8, 16, 32, 16]⟩
abbrev S32x2048x512 : Shape := ⟨3, ![32, 2048, 512]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S1024x6144 : Shape := ⟨2, ![1024, 6144]⟩
abbrev S32x2048x6144 : Shape := ⟨3, ![32, 2048, 6144]⟩
abbrev S8x128x128 : Shape := ⟨3, ![8, 128, 128]⟩
abbrev S8x128 : Shape := ⟨2, ![8, 128]⟩
abbrev S32x16x128x8x128 : Shape := ⟨5, ![32, 16, 128, 8, 128]⟩
abbrev S128x128 : Shape := ⟨2, ![128, 128]⟩
abbrev S1x128x128 : Shape := ⟨3, ![1, 128, 128]⟩
abbrev S8x32x16x128x128 : Shape := ⟨5, ![8, 32, 16, 128, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S1024x1024 : Shape := ⟨2, ![1024, 1024]⟩
abbrev S512x1024 : Shape := ⟨2, ![512, 1024]⟩

abbrev nBuf : Space → Nat
  | .hbm => 230
  | .vmem => 0
  | .smem => 0
  | _ => 0

abbrev hbmTy0_0 (i : Nat) : BufTy := match i % 128 with
  | 0 => ⟨S32x2048x1024, .f32⟩
  | 1 => ⟨S32x4096x256, .bf16⟩
  | 2 => ⟨S1x1024, .f32⟩
  | 3 => ⟨S1x1024x6144, .f32⟩
  | 4 => ⟨S1x1024, .f32⟩
  | 5 => ⟨S1x1024, .f32⟩
  | 6 => ⟨S1x8x128x128, .f32⟩
  | 7 => ⟨S1x8x128, .f32⟩
  | 8 => ⟨S1x1024x1024, .f32⟩
  | 9 => ⟨S1x512x1024, .f32⟩
  | 10 => ⟨S1x512x1024, .f32⟩
  | 11 => ⟨S1x1024x1024, .f32⟩
  | 12 => ⟨S1024, .f32⟩
  | 13 => ⟨S32x4096x256, .f32⟩
  | 14 => ⟨S32x16x32x8x16x16, .f32⟩
  | 15 => ⟨S32x16x8x16x32x16, .f32⟩
  | 16 => ⟨S32x2048x512, .f32⟩
  | 17 => ⟨S_, .f32⟩
  | 18 => ⟨S32x2048x512, .f32⟩
  | 19 => ⟨S32x2048x512, .f32⟩
  | 20 => ⟨S1024, .f32⟩
  | 21 => ⟨S32x2048x1024, .f32⟩
  | 22 => ⟨S_, .f32⟩
  | 23 => ⟨S32x2048, .f32⟩
  | 24 => ⟨S32x2048x1, .f32⟩
  | 25 => ⟨S_, .f32⟩
  | 26 => ⟨S32x2048x1, .f32⟩
  | 27 => ⟨S32x2048x1, .f32⟩
  | 28 => ⟨S_, .f32⟩
  | 29 => ⟨S32x2048x1, .f32⟩
  | 30 => ⟨S32x2048x1, .f32⟩
  | 31 => ⟨S32x2048x1, .f32⟩
  | 32 => ⟨S32x2048x1024, .f32⟩
  | 33 => ⟨S32x2048x1024, .f32⟩
  | 34 => ⟨S1x1x1024, .f32⟩
  | 35 => ⟨S32x2048x1024, .f32⟩
  | 36 => ⟨S32x2048x1024, .f32⟩
  | 37 => ⟨S1024x6144, .f32⟩
  | 38 => ⟨S32x2048x6144, .f32⟩
  | 39 => ⟨S32x2048x1024, .f32⟩
  | 40 => ⟨S32x2048x1024, .f32⟩
  | 41 => ⟨S32x2048x1024, .f32⟩
  | 42 => ⟨S32x2048x512, .f32⟩
  | 43 => ⟨S32x2048x512, .f32⟩
  | 44 => ⟨S32x2048x1024, .f32⟩
  | 45 => ⟨S32x2048x1024, .f32⟩
  | 46 => ⟨S32x2048x1024, .f32⟩
  | 47 => ⟨S32x2048x1024, .f32⟩
  | 48 => ⟨S_, .f32⟩
  | 49 => ⟨S32x2048x1024, .f32⟩
  | 50 => ⟨S32x2048x1024, .f32⟩
  | 51 => ⟨S32x2048x1024, .f32⟩
  | 52 => ⟨S_, .f32⟩
  | 53 => ⟨S32x2048x1024, .f32⟩
  | 54 => ⟨S32x2048x1024, .f32⟩
  | 55 => ⟨S32x2048x1024, .f32⟩
  | 56 => ⟨S_, .f32⟩
  | 57 => ⟨S32x2048x1024, .f32⟩
  | 58 => ⟨S32x2048x1024, .f32⟩
  | 59 => ⟨S_, .f32⟩
  | 60 => ⟨S32x2048x1024, .f32⟩
  | 61 => ⟨S32x2048x1024, .f32⟩
  | 62 => ⟨S32x2048x1024, .f32⟩
  | 63 => ⟨S32x2048x1024, .f32⟩
  | 64 => ⟨S32x2048x1024, .f32⟩
  | 65 => ⟨S_, .f32⟩
  | 66 => ⟨S32x2048x1024, .f32⟩
  | 67 => ⟨S32x2048x1024, .f32⟩
  | 68 => ⟨S32x2048x1024, .f32⟩
  | 69 => ⟨S_, .f32⟩
  | 70 => ⟨S32x2048x1024, .f32⟩
  | 71 => ⟨S32x2048x1024, .f32⟩
  | 72 => ⟨S32x2048x1024, .f32⟩
  | 73 => ⟨S_, .f32⟩
  | 74 => ⟨S32x2048x1024, .f32⟩
  | 75 => ⟨S32x2048x1024, .f32⟩
  | 76 => ⟨S_, .f32⟩
  | 77 => ⟨S32x2048x1024, .f32⟩
  | 78 => ⟨S32x2048x1024, .f32⟩
  | 79 => ⟨S32x2048x1024, .f32⟩
  | 80 => ⟨S1024, .f32⟩
  | 81 => ⟨S1024, .f32⟩
  | 82 => ⟨S8x128x128, .f32⟩
  | 83 => ⟨S8x128, .f32⟩
  | 84 => ⟨S_, .f32⟩
  | 85 => ⟨S32x2048, .f32⟩
  | 86 => ⟨S32x2048x1, .f32⟩
  | 87 => ⟨S_, .f32⟩
  | 88 => ⟨S32x2048x1, .f32⟩
  | 89 => ⟨S32x2048x1, .f32⟩
  | 90 => ⟨S32x2048x1024, .f32⟩
  | 91 => ⟨S32x2048x1024, .f32⟩
  | 92 => ⟨S32x2048x1024, .f32⟩
  | 93 => ⟨S_, .f32⟩
  | 94 => ⟨S32x2048, .f32⟩
  | 95 => ⟨S32x2048x1, .f32⟩
  | 96 => ⟨S_, .f32⟩
  | 97 => ⟨S32x2048x1, .f32⟩
  | 98 => ⟨S32x2048x1, .f32⟩
  | 99 => ⟨S_, .f32⟩
  | 100 => ⟨S32x2048x1, .f32⟩
  | 101 => ⟨S32x2048x1, .f32⟩
  | 102 => ⟨S32x2048x1, .f32⟩
  | 103 => ⟨S32x2048x1024, .f32⟩
  | 104 => ⟨S32x2048x1024, .f32⟩
  | 105 => ⟨S1x1x1024, .f32⟩
  | 106 => ⟨S32x2048x1024, .f32⟩
  | 107 => ⟨S32x2048x1024, .f32⟩
  | 108 => ⟨S1x1x1024, .f32⟩
  | 109 => ⟨S32x2048x1024, .f32⟩
  | 110 => ⟨S32x2048x1024, .f32⟩
  | 111 => ⟨S32x16x128x8x128, .f32⟩
  | 112 => ⟨S_, .i1⟩
  | 113 => ⟨S128x128, .i1⟩
  | 114 => ⟨S128x128, .i32⟩
  | 115 => ⟨S_, .i32⟩
  | 116 => ⟨S128x128, .i32⟩
  | 117 => ⟨S128x128, .i32⟩
  | 118 => ⟨S128x128, .i32⟩
  | 119 => ⟨S128x128, .i1⟩
  | 120 => ⟨S_, .i1⟩
  | 121 => ⟨S128x128, .i1⟩
  | 122 => ⟨S128x128, .i1⟩
  | 123 => ⟨S1x128x128, .i1⟩
  | 124 => ⟨S_, .i32⟩
  | 125 => ⟨S_, .f32⟩
  | 126 => ⟨S8x128x128, .i1⟩
  | 127 => ⟨S8x128x128, .f32⟩
  | _ => ⟨S32x2048x1024, .f32⟩

abbrev hbmTy0_1 (i : Nat) : BufTy := match i % 128 with
  | 0 => ⟨S8x128x128, .f32⟩
  | 1 => ⟨S8x32x16x128x128, .f32⟩
  | 2 => ⟨S32x16x128x8x128, .f32⟩
  | 3 => ⟨S128x8, .f32⟩
  | 4 => ⟨S128x8x1, .f32⟩
  | 5 => ⟨S1x1x128x8x1, .f32⟩
  | 6 => ⟨S32x16x128x8x128, .f32⟩
  | 7 => ⟨S32x16x128x8x128, .f32⟩
  | 8 => ⟨S32x2048x1024, .f32⟩
  | 9 => ⟨S32x2048x1024, .f32⟩
  | 10 => ⟨S32x2048x1024, .f32⟩
  | 11 => ⟨S32x2048x1024, .f32⟩
  | 12 => ⟨S_, .f32⟩
  | 13 => ⟨S32x2048x1024, .f32⟩
  | 14 => ⟨S32x2048x1024, .f32⟩
  | 15 => ⟨S_, .f32⟩
  | 16 => ⟨S32x2048x1024, .f32⟩
  | 17 => ⟨S32x2048x1024, .f32⟩
  | 18 => ⟨S32x2048x1024, .f32⟩
  | 19 => ⟨S32x2048x1024, .f32⟩
  | 20 => ⟨S1024x1024, .f32⟩
  | 21 => ⟨S32x2048x1024, .f32⟩
  | 22 => ⟨S32x2048x512, .f32⟩
  | 23 => ⟨S32x2048x512, .f32⟩
  | 24 => ⟨S_, .f32⟩
  | 25 => ⟨S32x2048x512, .f32⟩
  | 26 => ⟨S32x2048x512, .f32⟩
  | 27 => ⟨S32x2048x512, .f32⟩
  | 28 => ⟨S_, .f32⟩
  | 29 => ⟨S32x2048x512, .f32⟩
  | 30 => ⟨S32x2048x512, .f32⟩
  | 31 => ⟨S32x2048x512, .f32⟩
  | 32 => ⟨S_, .f32⟩
  | 33 => ⟨S32x2048x512, .f32⟩
  | 34 => ⟨S32x2048x512, .f32⟩
  | 35 => ⟨S_, .f32⟩
  | 36 => ⟨S32x2048x512, .f32⟩
  | 37 => ⟨S32x2048x512, .f32⟩
  | 38 => ⟨S32x2048x512, .f32⟩
  | 39 => ⟨S512x1024, .f32⟩
  | 40 => ⟨S32x2048x1024, .f32⟩
  | 41 => ⟨S32x2048x512, .f32⟩
  | 42 => ⟨S32x2048x512, .f32⟩
  | 43 => ⟨S32x2048x512, .f32⟩
  | 44 => ⟨S32x2048x512, .f32⟩
  | 45 => ⟨S_, .f32⟩
  | 46 => ⟨S32x2048x512, .f32⟩
  | 47 => ⟨S32x2048x512, .f32⟩
  | 48 => ⟨S_, .f32⟩
  | 49 => ⟨S32x2048x512, .f32⟩
  | 50 => ⟨S32x2048x512, .f32⟩
  | 51 => ⟨S32x2048x512, .f32⟩
  | 52 => ⟨S32x2048x512, .f32⟩
  | 53 => ⟨S32x2048x512, .f32⟩
  | 54 => ⟨S_, .f32⟩
  | 55 => ⟨S32x2048x512, .f32⟩
  | 56 => ⟨S32x2048x512, .f32⟩
  | 57 => ⟨S_, .f32⟩
  | 58 => ⟨S32x2048x512, .f32⟩
  | 59 => ⟨S32x2048x512, .f32⟩
  | 60 => ⟨S32x2048x512, .f32⟩
  | 61 => ⟨S32x2048x512, .f32⟩
  | 62 => ⟨S512x1024, .f32⟩
  | 63 => ⟨S32x2048x1024, .f32⟩
  | 64 => ⟨S32x2048x1024, .f32⟩
  | 65 => ⟨S32x2048x1024, .f32⟩
  | 66 => ⟨S_, .f32⟩
  | 67 => ⟨S32x2048x1024, .f32⟩
  | 68 => ⟨S32x2048x1024, .f32⟩
  | 69 => ⟨S_, .f32⟩
  | 70 => ⟨S32x2048x1024, .f32⟩
  | 71 => ⟨S32x2048x1024, .f32⟩
  | 72 => ⟨S32x2048x1024, .f32⟩
  | 73 => ⟨S32x2048x1024, .f32⟩
  | 74 => ⟨S32x2048x1024, .f32⟩
  | 75 => ⟨S_, .f32⟩
  | 76 => ⟨S32x2048x1024, .f32⟩
  | 77 => ⟨S32x2048x1024, .f32⟩
  | 78 => ⟨S_, .f32⟩
  | 79 => ⟨S32x2048x1024, .f32⟩
  | 80 => ⟨S32x2048x1024, .f32⟩
  | 81 => ⟨S32x2048x1024, .f32⟩
  | 82 => ⟨S32x2048x1024, .f32⟩
  | 83 => ⟨S1024x1024, .f32⟩
  | 84 => ⟨S32x2048x1024, .f32⟩
  | 85 => ⟨S32x2048x1024, .f32⟩
  | 86 => ⟨S32x2048x1024, .f32⟩
  | 87 => ⟨S_, .f32⟩
  | 88 => ⟨S32x2048, .f32⟩
  | 89 => ⟨S32x2048x1, .f32⟩
  | 90 => ⟨S_, .f32⟩
  | 91 => ⟨S32x2048x1, .f32⟩
  | 92 => ⟨S32x2048x1, .f32⟩
  | 93 => ⟨S_, .f32⟩
  | 94 => ⟨S32x2048x1, .f32⟩
  | 95 => ⟨S32x2048x1, .f32⟩
  | 96 => ⟨S32x2048x1, .f32⟩
  | 97 => ⟨S32x2048x1024, .f32⟩
  | 98 => ⟨S32x2048x1024, .f32⟩
  | 99 => ⟨S1x1x1024, .f32⟩
  | 100 => ⟨S32x2048x1024, .f32⟩
  | 101 => ⟨S32x2048x1024, .f32⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_4 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_5 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_7 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_8 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_9 : Ref sig .tc := ⟨.hbm, 73, rfl⟩
abbrev main_v50 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_13 : Ref sig .tc := ⟨.hbm, 93, rfl⟩
abbrev main_v66 : Ref sig .tc := ⟨.hbm, 94, rfl⟩
abbrev main_v67 : Ref sig .tc := ⟨.hbm, 95, rfl⟩
abbrev main_cst_14 : Ref sig .tc := ⟨.hbm, 96, rfl⟩
abbrev main_v68 : Ref sig .tc := ⟨.hbm, 97, rfl⟩
abbrev main_v69 : Ref sig .tc := ⟨.hbm, 98, rfl⟩
abbrev main_cst_15 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_c : Ref sig .tc := ⟨.hbm, 112, rfl⟩
abbrev main_v82 : Ref sig .tc := ⟨.hbm, 113, rfl⟩
abbrev main_call0_v0 : Ref sig .tc := ⟨.hbm, 114, rfl⟩
abbrev main_call0_c : Ref sig .tc := ⟨.hbm, 115, rfl⟩
abbrev main_call0_v1 : Ref sig .tc := ⟨.hbm, 116, rfl⟩
abbrev main_call0_v2 : Ref sig .tc := ⟨.hbm, 117, rfl⟩
abbrev main_call0_v3 : Ref sig .tc := ⟨.hbm, 118, rfl⟩
abbrev main_call0_v4 : Ref sig .tc := ⟨.hbm, 119, rfl⟩
abbrev main_call0_c_0 : Ref sig .tc := ⟨.hbm, 120, rfl⟩
abbrev main_call0_v5 : Ref sig .tc := ⟨.hbm, 121, rfl⟩
abbrev main_v83 : Ref sig .tc := ⟨.hbm, 122, rfl⟩
abbrev main_v84 : Ref sig .tc := ⟨.hbm, 123, rfl⟩
abbrev main_c_16 : Ref sig .tc := ⟨.hbm, 124, rfl⟩
abbrev main_call1_v0 : Ref sig .tc := ⟨.hbm, 125, rfl⟩
abbrev main_call1_v1 : Ref sig .tc := ⟨.hbm, 126, rfl⟩
abbrev main_call1_v2 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_call2_v0 : Ref sig .tc := ⟨.hbm, 138, rfl⟩
abbrev main_call2_v1 : Ref sig .tc := ⟨.hbm, 139, rfl⟩
abbrev main_call2_cst : Ref sig .tc := ⟨.hbm, 140, rfl⟩
abbrev main_call2_v2 : Ref sig .tc := ⟨.hbm, 141, rfl⟩
abbrev main_call2_v3 : Ref sig .tc := ⟨.hbm, 142, rfl⟩
abbrev main_call2_cst_0 : Ref sig .tc := ⟨.hbm, 143, rfl⟩
abbrev main_call2_v4 : Ref sig .tc := ⟨.hbm, 144, rfl⟩
abbrev main_call2_v5 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_cst_17 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_cst_18 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_cst_19 : Ref sig .tc := ⟨.hbm, 160, rfl⟩
abbrev main_v107 : Ref sig .tc := ⟨.hbm, 161, rfl⟩
abbrev main_v108 : Ref sig .tc := ⟨.hbm, 162, rfl⟩
abbrev main_cst_20 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_cst_21 : Ref sig .tc := ⟨.hbm, 173, rfl⟩
abbrev main_v118 : Ref sig .tc := ⟨.hbm, 174, rfl⟩
abbrev main_v119 : Ref sig .tc := ⟨.hbm, 175, rfl⟩
abbrev main_cst_22 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_call3_v0 : Ref sig .tc := ⟨.hbm, 180, rfl⟩
abbrev main_call3_v1 : Ref sig .tc := ⟨.hbm, 181, rfl⟩
abbrev main_call3_cst : Ref sig .tc := ⟨.hbm, 182, rfl⟩
abbrev main_call3_v2 : Ref sig .tc := ⟨.hbm, 183, rfl⟩
abbrev main_call3_v3 : Ref sig .tc := ⟨.hbm, 184, rfl⟩
abbrev main_call3_cst_0 : Ref sig .tc := ⟨.hbm, 185, rfl⟩
abbrev main_call3_v4 : Ref sig .tc := ⟨.hbm, 186, rfl⟩
abbrev main_call3_v5 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_cst_23 : Ref sig .tc := ⟨.hbm, 194, rfl⟩
abbrev main_v129 : Ref sig .tc := ⟨.hbm, 195, rfl⟩
abbrev main_v130 : Ref sig .tc := ⟨.hbm, 196, rfl⟩
abbrev main_cst_24 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_cst_25 : Ref sig .tc := ⟨.hbm, 203, rfl⟩
abbrev main_v136 : Ref sig .tc := ⟨.hbm, 204, rfl⟩
abbrev main_v137 : Ref sig .tc := ⟨.hbm, 205, rfl⟩
abbrev main_cst_26 : Ref sig .tc := ⟨.hbm, 206, rfl⟩
abbrev main_v138 : Ref sig .tc := ⟨.hbm, 207, rfl⟩
abbrev main_v139 : Ref sig .tc := ⟨.hbm, 208, rfl⟩
abbrev main_v140 : Ref sig .tc := ⟨.hbm, 209, rfl⟩
abbrev main_v141 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩
abbrev main_cst_27 : Ref sig .tc := ⟨.hbm, 215, rfl⟩
abbrev main_v146 : Ref sig .tc := ⟨.hbm, 216, rfl⟩
abbrev main_v147 : Ref sig .tc := ⟨.hbm, 217, rfl⟩
abbrev main_cst_28 : Ref sig .tc := ⟨.hbm, 218, rfl⟩
abbrev main_v148 : Ref sig .tc := ⟨.hbm, 219, rfl⟩
abbrev main_v149 : Ref sig .tc := ⟨.hbm, 220, rfl⟩
abbrev main_cst_29 : Ref sig .tc := ⟨.hbm, 221, rfl⟩
abbrev main_v150 : Ref sig .tc := ⟨.hbm, 222, rfl⟩
abbrev main_v151 : Ref sig .tc := ⟨.hbm, 223, rfl⟩
abbrev main_v152 : Ref sig .tc := ⟨.hbm, 224, rfl⟩
abbrev main_v153 : Ref sig .tc := ⟨.hbm, 225, rfl⟩
abbrev main_v154 : Ref sig .tc := ⟨.hbm, 226, rfl⟩
abbrev main_v155 : Ref sig .tc := ⟨.hbm, 227, rfl⟩
abbrev main_v156 : Ref sig .tc := ⟨.hbm, 228, rfl⟩
abbrev main_v157 : Ref sig .tc := ⟨.hbm, 229, rfl⟩

abbrev nD : Nat := 1
abbrev τ : Topo := Topo.v7x

variable {F : FTy → Type} [FloatOps F]
-- ==== Kernel2.lean ====
abbrev S32x2048x1024 : Shape := ⟨3, ![32, 2048, 1024]⟩
abbrev S1x1024 : Shape := ⟨2, ![1, 1024]⟩
abbrev S1x1024x6144 : Shape := ⟨3, ![1, 1024, 6144]⟩
abbrev S6144 : Shape := ⟨1, ![6144]⟩
abbrev S_ : Shape := ⟨0, ![]⟩
abbrev S1024x6144 : Shape := ⟨2, ![1024, 6144]⟩
abbrev S1x6144 : Shape := ⟨2, ![1, 6144]⟩
abbrev S1024 : Shape := ⟨1, ![1024]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S32x4096x256 : Shape := ⟨3, ![32, 4096, 256]⟩
abbrev S16x128x1024 : Shape := ⟨3, ![16, 128, 1024]⟩
abbrev S1024x512 : Shape := ⟨2, ![1024, 512]⟩
abbrev S32x128x256 : Shape := ⟨3, ![32, 128, 256]⟩
abbrev S4x4x768x128 : Shape := ⟨4, ![4, 4, 768, 128]⟩
abbrev S4x128x1024 : Shape := ⟨3, ![4, 128, 1024]⟩
abbrev S512x1024 : Shape := ⟨2, ![512, 1024]⟩
abbrev S16x128 : Shape := ⟨2, ![16, 128]⟩
abbrev S1x4x768x128 : Shape := ⟨4, ![1, 4, 768, 128]⟩
abbrev S4x768x128 : Shape := ⟨3, ![4, 768, 128]⟩
abbrev S1x16x128 : Shape := ⟨3, ![1, 16, 128]⟩
abbrev S1x32x128 : Shape := ⟨3, ![1, 32, 128]⟩
abbrev S32x128 : Shape := ⟨2, ![32, 128]⟩
abbrev S1x128 : Shape := ⟨2, ![1, 128]⟩
abbrev S32x512 : Shape := ⟨2, ![32, 512]⟩
abbrev S192x512 : Shape := ⟨2, ![192, 512]⟩

abbrev nBuf : Space → Nat
  | .hbm => 249
  | .vmem => 8
  | .smem => 0
  | _ => 0

abbrev hbmTy0_0 (i : Nat) : BufTy := match i % 128 with
  | 0 => ⟨S32x2048x1024, .f32⟩
  | 1 => ⟨S1x1024, .f32⟩
  | 2 => ⟨S1x1024x6144, .f32⟩
  | 3 => ⟨S6144, .i32⟩
  | 4 => ⟨S_, .i32⟩
  | 5 => ⟨S6144, .i32⟩
  | 6 => ⟨S6144, .i1⟩
  | 7 => ⟨S_, .i32⟩
  | 8 => ⟨S6144, .i32⟩
  | 9 => ⟨S6144, .i1⟩
  | 10 => ⟨S6144, .i1⟩
  | 11 => ⟨S_, .f32⟩
  | 12 => ⟨S_, .f32⟩
  | 13 => ⟨S6144, .f32⟩
  | 14 => ⟨S6144, .f32⟩
  | 15 => ⟨S6144, .f32⟩
  | 16 => ⟨S6144, .f32⟩
  | 17 => ⟨S1024x6144, .f32⟩
  | 18 => ⟨S1x6144, .f32⟩
  | 19 => ⟨S1024x6144, .f32⟩
  | 20 => ⟨S1024x6144, .f32⟩
  | 21 => ⟨S1024x6144, .bf16⟩
  | 22 => ⟨S1024, .f32⟩
  | 23 => ⟨S1x1024, .f32⟩
  | 24 => ⟨S512, .i32⟩
  | 25 => ⟨S512, .i32⟩
  | 26 => ⟨S_, .i32⟩
  | 27 => ⟨S_, .i32⟩
  | 28 => ⟨S512, .i32⟩
  | 29 => ⟨S512, .i32⟩
  | 30 => ⟨S512, .i32⟩
  | 31 => ⟨S_, .i32⟩
  | 32 => ⟨S512, .i32⟩
  | 33 => ⟨S512, .i1⟩
  | 34 => ⟨S512, .i32⟩
  | 35 => ⟨S512, .i32⟩
  | 36 => ⟨S_, .i32⟩
  | 37 => ⟨S512, .i32⟩
  | 38 => ⟨S512, .i1⟩
  | 39 => ⟨S512, .i1⟩
  | 40 => ⟨S_, .i32⟩
  | 41 => ⟨S512, .i32⟩
  | 42 => ⟨S512, .i32⟩
  | 43 => ⟨S512, .i32⟩
  | 44 => ⟨S_, .i32⟩
  | 45 => ⟨S_, .i32⟩
  | 46 => ⟨S_, .i32⟩
  | 47 => ⟨S_, .i1⟩
  | 48 => ⟨S_, .i32⟩
  | 49 => ⟨S_, .i32⟩
  | 50 => ⟨S512, .i32⟩
  | 51 => ⟨S512, .i32⟩
  | 52 => ⟨S_, .i32⟩
  | 53 => ⟨S512, .i32⟩
  | 54 => ⟨S512, .i1⟩
  | 55 => ⟨S_, .i32⟩
  | 56 => ⟨S512, .i32⟩
  | 57 => ⟨S512, .i1⟩
  | 58 => ⟨S_, .i32⟩
  | 59 => ⟨S_, .i1⟩
  | 60 => ⟨S512, .i1⟩
  | 61 => ⟨S512, .i1⟩
  | 62 => ⟨S512, .i1⟩
  | 63 => ⟨S512, .i32⟩
  | 64 => ⟨S512, .i32⟩
  | 65 => ⟨S512, .i32⟩
  | 66 => ⟨S_, .i32⟩
  | 67 => ⟨S_, .i32⟩
  | 68 => ⟨S512, .i32⟩
  | 69 => ⟨S512, .i32⟩
  | 70 => ⟨S512, .i32⟩
  | 71 => ⟨S_, .i32⟩
  | 72 => ⟨S512, .i32⟩
  | 73 => ⟨S512, .i1⟩
  | 74 => ⟨S512, .i32⟩
  | 75 => ⟨S512, .i32⟩
  | 76 => ⟨S_, .i32⟩
  | 77 => ⟨S512, .i32⟩
  | 78 => ⟨S512, .i1⟩
  | 79 => ⟨S512, .i1⟩
  | 80 => ⟨S_, .i32⟩
  | 81 => ⟨S512, .i32⟩
  | 82 => ⟨S512, .i32⟩
  | 83 => ⟨S512, .i32⟩
  | 84 => ⟨S_, .i32⟩
  | 85 => ⟨S_, .i32⟩
  | 86 => ⟨S_, .i32⟩
  | 87 => ⟨S_, .i1⟩
  | 88 => ⟨S_, .i32⟩
  | 89 => ⟨S_, .i32⟩
  | 90 => ⟨S512, .i32⟩
  | 91 => ⟨S512, .i32⟩
  | 92 => ⟨S_, .i32⟩
  | 93 => ⟨S512, .i32⟩
  | 94 => ⟨S512, .i1⟩
  | 95 => ⟨S_, .i32⟩
  | 96 => ⟨S512, .i32⟩
  | 97 => ⟨S512, .i1⟩
  | 98 => ⟨S_, .i32⟩
  | 99 => ⟨S_, .i1⟩
  | 100 => ⟨S512, .i1⟩
  | 101 => ⟨S512, .i1⟩
  | 102 => ⟨S512, .i1⟩
  | 103 => ⟨S512, .i32⟩
  | 104 => ⟨S512, .i32⟩
  | 105 => ⟨S512, .i32⟩
  | 106 => ⟨S_, .i32⟩
  | 107 => ⟨S_, .i32⟩
  | 108 => ⟨S512, .i32⟩
  | 109 => ⟨S512, .i32⟩
  | 110 => ⟨S512, .i32⟩
  | 111 => ⟨S_, .i32⟩
  | 112 => ⟨S512, .i32⟩
  | 113 => ⟨S512, .i1⟩
  | 114 => ⟨S512, .i32⟩
  | 115 => ⟨S512, .i32⟩
  | 116 => ⟨S_, .i32⟩
  | 117 => ⟨S512, .i32⟩
  | 118 => ⟨S512, .i1⟩
  | 119 => ⟨S512, .i1⟩
  | 120 => ⟨S_, .i32⟩
  | 121 => ⟨S512, .i32⟩
  | 122 => ⟨S512, .i32⟩
  | 123 => ⟨S512, .i32⟩
  | 124 => ⟨S_, .i32⟩
  | 125 => ⟨S_, .i32⟩
  | 126 => ⟨S_, .i32⟩
  | 127 => ⟨S_, .i1⟩
  | _ => ⟨S32x2048x1024, .f32⟩

abbrev hbmTy0_1 (i : Nat) : BufTy := match i % 128 with
  | 0 => ⟨S_, .i32⟩
  | 1 => ⟨S_, .i32⟩
  | 2 => ⟨S512, .i32⟩
  | 3 => ⟨S512, .i32⟩
  | 4 => ⟨S_, .i32⟩
  | 5 => ⟨S512, .i32⟩
  | 6 => ⟨S512, .i1⟩
  | 7 => ⟨S_, .i32⟩
  | 8 => ⟨S512, .i32⟩
  | 9 => ⟨S512, .i1⟩
  | 10 => ⟨S_, .i32⟩
  | 11 => ⟨S_, .i1⟩
  | 12 => ⟨S512, .i1⟩
  | 13 => ⟨S512, .i1⟩
  | 14 => ⟨S512, .i1⟩
  | 15 => ⟨S512, .i32⟩
  | 16 => ⟨S512, .i32⟩
  | 17 => ⟨S512, .i32⟩
  | 18 => ⟨S_, .i32⟩
  | 19 => ⟨S_, .i32⟩
  | 20 => ⟨S512, .i32⟩
  | 21 => ⟨S512, .i32⟩
  | 22 => ⟨S512, .i32⟩
  | 23 => ⟨S_, .i32⟩
  | 24 => ⟨S512, .i32⟩
  | 25 => ⟨S512, .i1⟩
  | 26 => ⟨S512, .i32⟩
  | 27 => ⟨S512, .i32⟩
  | 28 => ⟨S_, .i32⟩
  | 29 => ⟨S512, .i32⟩
  | 30 => ⟨S512, .i1⟩
  | 31 => ⟨S512, .i1⟩
  | 32 => ⟨S_, .i32⟩
  | 33 => ⟨S512, .i32⟩
  | 34 => ⟨S512, .i32⟩
  | 35 => ⟨S512, .i32⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S512, .i32⟩
  | 43 => ⟨S512, .i32⟩
  | 44 => ⟨S_, .i32⟩
  | 45 => ⟨S512, .i32⟩
  | 46 => ⟨S512, .i1⟩
  | 47 => ⟨S_, .i32⟩
  | 48 => ⟨S512, .i32⟩
  | 49 => ⟨S512, .i1⟩
  | 50 => ⟨S_, .i32⟩
  | 51 => ⟨S_, .i1⟩
  | 52 => ⟨S512, .i1⟩
  | 53 => ⟨S512, .i1⟩
  | 54 => ⟨S512, .i1⟩
  | 55 => ⟨S512, .i32⟩
  | 56 => ⟨S512, .i32⟩
  | 57 => ⟨S512, .i32⟩
  | 58 => ⟨S512x1, .i32⟩
  | 59 => ⟨S1x512, .i32⟩
  | 60 => ⟨S512x512, .i32⟩
  | 61 => ⟨S512x512, .i32⟩
  | 62 => ⟨S512x512, .i1⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S512, .i32⟩
  | 70 => ⟨S512, .i32⟩
  | 71 => ⟨S_, .i32⟩
  | 72 => ⟨S512, .i32⟩
  | 73 => ⟨S512, .i1⟩
  | 74 => ⟨S_, .i32⟩
  | 75 => ⟨S512, .i32⟩
  | 76 => ⟨S512, .i1⟩
  | 77 => ⟨S_, .i32⟩
  | 78 => ⟨S_, .i1⟩
  | 79 => ⟨S512, .i1⟩
  | 80 => ⟨S512, .i1⟩
  | 81 => ⟨S512, .i1⟩
  | 82 => ⟨S512, .i32⟩
  | 83 => ⟨S512, .i32⟩
  | 84 => ⟨S512, .i32⟩
  | 85 => ⟨S512x1, .i32⟩
  | 86 => ⟨S1x512, .i32⟩
  | 87 => ⟨S512x512, .i32⟩
  | 88 => ⟨S512x512, .i32⟩
  | 89 => ⟨S512x512, .i1⟩
  | 90 => ⟨S512x512, .i1⟩
  | 91 => ⟨S_, .i32⟩
  | 92 => ⟨S_, .i32⟩
  | 93 => ⟨S512, .i32⟩
  | 94 => ⟨S512, .i32⟩
  | 95 => ⟨S512, .i32⟩
  | 96 => ⟨S_, .i32⟩
  | 97 => ⟨S512, .i32⟩
  | 98 => ⟨S512, .i1⟩
  | 99 => ⟨S512, .i32⟩
  | 100 => ⟨S512, .i32⟩
  | 101 => ⟨S_, .i32⟩
  | 102 => ⟨S512, .i32⟩
  | 103 => ⟨S512, .i1⟩
  | 104 => ⟨S512, .i1⟩
  | 105 => ⟨S_, .i32⟩
  | 106 => ⟨S512, .i32⟩
  | 107 => ⟨S512, .i32⟩
  | 108 => ⟨S512, .i32⟩
  | 109 => ⟨S_, .i32⟩
  | 110 => ⟨S512, .i32⟩
  | 111 => ⟨S512, .i32⟩
  | 112 => ⟨S512, .i32⟩
  | 113 => ⟨S512x1, .i32⟩
  | 114 => ⟨S1x512, .i32⟩
  | 115 => ⟨S512x512, .i32⟩
  | 116 => ⟨S512x512, .i32⟩
  | 117 => ⟨S512x512, .i1⟩
  | 118 => ⟨S512x512, .i1⟩
  | 119 => ⟨S512x512, .bf16⟩
  | 120 => ⟨S32x4096x256, .bf16⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | .local _ .vmem, ⟨0, _⟩ => ⟨S16x128x1024, .f32⟩
  | .local _ .vmem, ⟨1, _⟩ => ⟨S16x128x1024, .f32⟩
  | .local _ .vmem, ⟨2, _⟩ => ⟨S1x1024, .f32⟩
  | .local _ .vmem, ⟨3, _⟩ => ⟨S1024x512, .bf16⟩
  | .local _ .vmem, ⟨4, _⟩ => ⟨S512x512, .bf16⟩
  | .local _ .vmem, ⟨5, _⟩ => ⟨S32x128x256, .bf16⟩
  | .local _ .vmem, ⟨6, _⟩ => ⟨S32x128x256, .bf16⟩
  | .local _ .vmem, ⟨7, _⟩ => ⟨S4x4x768x128, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_c : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_0 : Ref sig .tc := ⟨.hbm, 40, rfl⟩
abbrev main_call1_v12 : Ref sig .tc := ⟨.hbm, 41, rfl⟩
abbrev main_call1_v13 : Ref sig .tc := ⟨.hbm, 42, rfl⟩
abbrev main_v17 : Ref sig .tc := ⟨.hbm, 43, rfl⟩
abbrev main_c_3 : Ref sig .tc := ⟨.hbm, 44, rfl⟩
abbrev main_call2_v0 : Ref sig .tc := ⟨.hbm, 45, rfl⟩
abbrev main_call2_c : Ref sig .tc := ⟨.hbm, 46, rfl⟩
abbrev main_call2_v1 : Ref sig .tc := ⟨.hbm, 47, rfl⟩
abbrev main_call2_c_0 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_c_1 : Ref sig .tc := ⟨.hbm, 52, rfl⟩
abbrev main_call2_v5 : Ref sig .tc := ⟨.hbm, 53, rfl⟩
abbrev main_call2_v6 : Ref sig .tc := ⟨.hbm, 54, rfl⟩
abbrev main_call2_c_2 : Ref sig .tc := ⟨.hbm, 55, rfl⟩
abbrev main_call2_v7 : Ref sig .tc := ⟨.hbm, 56, rfl⟩
abbrev main_call2_v8 : Ref sig .tc := ⟨.hbm, 57, rfl⟩
abbrev main_call2_c_3 : Ref sig .tc := ⟨.hbm, 58, rfl⟩
abbrev main_call2_v9 : Ref sig .tc := ⟨.hbm, 59, rfl⟩
abbrev main_call2_v10 : Ref sig .tc := ⟨.hbm, 60, rfl⟩
abbrev main_call2_v11 : Ref sig .tc := ⟨.hbm, 61, rfl⟩
abbrev main_call2_v12 : Ref sig .tc := ⟨.hbm, 62, rfl⟩
abbrev main_call2_v13 : Ref sig .tc := ⟨.hbm, 63, rfl⟩
abbrev main_call2_v14 : Ref sig .tc := ⟨.hbm, 64, rfl⟩
abbrev main_v18 : Ref sig .tc := ⟨.hbm, 65, rfl⟩
abbrev main_c_4 : Ref sig .tc := ⟨.hbm, 66, rfl⟩
abbrev main_call3_v0 : Ref sig .tc := ⟨.hbm, 67, rfl⟩
abbrev main_call3_v1 : Ref sig .tc := ⟨.hbm, 68, rfl⟩
abbrev main_call3_v2 : Ref sig .tc := ⟨.hbm, 69, rfl⟩
abbrev main_call3_v3 : Ref sig .tc := ⟨.hbm, 70, rfl⟩
abbrev main_call3_v4 : Ref sig .tc := ⟨.hbm, 71, rfl⟩
abbrev main_call3_v5 : Ref sig .tc := ⟨.hbm, 72, rfl⟩
abbrev main_call3_v6 : Ref sig .tc := ⟨.hbm, 73, rfl⟩
abbrev main_call3_v7 : Ref sig .tc := ⟨.hbm, 74, rfl⟩
abbrev main_call3_v8 : Ref sig .tc := ⟨.hbm, 75, rfl⟩
abbrev main_call3_c : Ref sig .tc := ⟨.hbm, 76, rfl⟩
abbrev main_call3_v9 : Ref sig .tc := ⟨.hbm, 77, rfl⟩
abbrev main_call3_v10 : Ref sig .tc := ⟨.hbm, 78, rfl⟩
abbrev main_call3_v11 : Ref sig .tc := ⟨.hbm, 79, rfl⟩
abbrev main_call3_c_0 : Ref sig .tc := ⟨.hbm, 80, rfl⟩
abbrev main_call3_v12 : Ref sig .tc := ⟨.hbm, 81, rfl⟩
abbrev main_call3_v13 : Ref sig .tc := ⟨.hbm, 82, rfl⟩
abbrev main_v19 : Ref sig .tc := ⟨.hbm, 83, rfl⟩
abbrev main_c_5 : Ref sig .tc := ⟨.hbm, 84, rfl⟩
abbrev main_call4_v0 : Ref sig .tc := ⟨.hbm, 85, rfl⟩
abbrev main_call4_c : Ref sig .tc := ⟨.hbm, 86, rfl⟩
abbrev main_call4_v1 : Ref sig .tc := ⟨.hbm, 87, rfl⟩
abbrev main_call4_c_0 : Ref sig .tc := ⟨.hbm, 88, rfl⟩
abbrev main_call4_v2 : Ref sig .tc := ⟨.hbm, 89, rfl⟩
abbrev main_call4_v3 : Ref sig .tc := ⟨.hbm, 90, rfl⟩
abbrev main_call4_v4 : Ref sig .tc := ⟨.hbm, 91, rfl⟩
abbrev main_call4_c_1 : Ref sig .tc := ⟨.hbm, 92, rfl⟩
abbrev main_call4_v5 : Ref sig .tc := ⟨.hbm, 93, rfl⟩
abbrev main_call4_v6 : Ref sig .tc := ⟨.hbm, 94, rfl⟩
abbrev main_call4_c_2 : Ref sig .tc := ⟨.hbm, 95, rfl⟩
abbrev main_call4_v7 : Ref sig .tc := ⟨.hbm, 96, rfl⟩
abbrev main_call4_v8 : Ref sig .tc := ⟨.hbm, 97, rfl⟩
abbrev main_call4_c_3 : Ref sig .tc := ⟨.hbm, 98, rfl⟩
abbrev main_call4_v9 : Ref sig .tc := ⟨.hbm, 99, rfl⟩
abbrev main_call4_v10 : Ref sig .tc := ⟨.hbm, 100, rfl⟩
abbrev main_call4_v11 : Ref sig .tc := ⟨.hbm, 101, rfl⟩
abbrev main_call4_v12 : Ref sig .tc := ⟨.hbm, 102, rfl⟩
abbrev main_call4_v13 : Ref sig .tc := ⟨.hbm, 103, rfl⟩
abbrev main_call4_v14 : Ref sig .tc := ⟨.hbm, 104, rfl⟩
abbrev main_v20 : Ref sig .tc := ⟨.hbm, 105, rfl⟩
abbrev main_c_6 : Ref sig .tc := ⟨.hbm, 106, rfl⟩
abbrev main_call5_v0 : Ref sig .tc := ⟨.hbm, 107, rfl⟩
abbrev main_call5_v1 : Ref sig .tc := ⟨.hbm, 108, rfl⟩
abbrev main_call5_v2 : Ref sig .tc := ⟨.hbm, 109, rfl⟩
abbrev main_call5_v3 : Ref sig .tc := ⟨.hbm, 110, rfl⟩
abbrev main_call5_v4 : Ref sig .tc := ⟨.hbm, 111, rfl⟩
abbrev main_call5_v5 : Ref sig .tc := ⟨.hbm, 112, rfl⟩
abbrev main_call5_v6 : Ref sig .tc := ⟨.hbm, 113, rfl⟩
abbrev main_call5_v7 : Ref sig .tc := ⟨.hbm, 114, rfl⟩
abbrev main_call5_v8 : Ref sig .tc := ⟨.hbm, 115, rfl⟩
abbrev main_call5_c : Ref sig .tc := ⟨.hbm, 116, rfl⟩
abbrev main_call5_v9 : Ref sig .tc := ⟨.hbm, 117, rfl⟩
abbrev main_call5_v10 : Ref sig .tc := ⟨.hbm, 118, rfl⟩
abbrev main_call5_v11 : Ref sig .tc := ⟨.hbm, 119, rfl⟩
abbrev main_call5_c_0 : Ref sig .tc := ⟨.hbm, 120, rfl⟩
abbrev main_call5_v12 : Ref sig .tc := ⟨.hbm, 121, rfl⟩
abbrev main_call5_v13 : Ref sig .tc := ⟨.hbm, 122, rfl⟩
abbrev main_v21 : Ref sig .tc := ⟨.hbm, 123, rfl⟩
abbrev main_c_7 : Ref sig .tc := ⟨.hbm, 124, rfl⟩
abbrev main_call6_v0 : Ref sig .tc := ⟨.hbm, 125, rfl⟩
abbrev main_call6_c : Ref sig .tc := ⟨.hbm, 126, rfl⟩
abbrev main_call6_v1 : Ref sig .tc := ⟨.hbm, 127, rfl⟩
abbrev main_call6_c_0 : Ref sig .tc := ⟨.hbm, 128, rfl⟩
abbrev main_call6_v2 : Ref sig .tc := ⟨.hbm, 129, rfl⟩
abbrev main_call6_v3 : Ref sig .tc := ⟨.hbm, 130, rfl⟩
abbrev main_call6_v4 : Ref sig .tc := ⟨.hbm, 131, rfl⟩
abbrev main_call6_c_1 : Ref sig .tc := ⟨.hbm, 132, rfl⟩
abbrev main_call6_v5 : Ref sig .tc := ⟨.hbm, 133, rfl⟩
abbrev main_call6_v6 : Ref sig .tc := ⟨.hbm, 134, rfl⟩
abbrev main_call6_c_2 : Ref sig .tc := ⟨.hbm, 135, rfl⟩
abbrev main_call6_v7 : Ref sig .tc := ⟨.hbm, 136, rfl⟩
abbrev main_call6_v8 : Ref sig .tc := ⟨.hbm, 137, rfl⟩
abbrev main_call6_c_3 : Ref sig .tc := ⟨.hbm, 138, rfl⟩
abbrev main_call6_v9 : Ref sig .tc := ⟨.hbm, 139, rfl⟩
abbrev main_call6_v10 : Ref sig .tc := ⟨.hbm, 140, rfl⟩
abbrev main_call6_v11 : Ref sig .tc := ⟨.hbm, 141, rfl⟩
abbrev main_call6_v12 : Ref sig .tc := ⟨.hbm, 142, rfl⟩
abbrev main_call6_v13 : Ref sig .tc := ⟨.hbm, 143, rfl⟩
abbrev main_call6_v14 : Ref sig .tc := ⟨.hbm, 144, rfl⟩
abbrev main_v22 : Ref sig .tc := ⟨.hbm, 145, rfl⟩
abbrev main_c_8 : Ref sig .tc := ⟨.hbm, 146, rfl⟩
abbrev main_call7_v0 : Ref sig .tc := ⟨.hbm, 147, rfl⟩
abbrev main_call7_v1 : Ref sig .tc := ⟨.hbm, 148, rfl⟩
abbrev main_call7_v2 : Ref sig .tc := ⟨.hbm, 149, rfl⟩
abbrev main_call7_v3 : Ref sig .tc := ⟨.hbm, 150, rfl⟩
abbrev main_call7_v4 : Ref sig .tc := ⟨.hbm, 151, rfl⟩
abbrev main_call7_v5 : Ref sig .tc := ⟨.hbm, 152, rfl⟩
abbrev main_call7_v6 : Ref sig .tc := ⟨.hbm, 153, rfl⟩
abbrev main_call7_v7 : Ref sig .tc := ⟨.hbm, 154, rfl⟩
abbrev main_call7_v8 : Ref sig .tc := ⟨.hbm, 155, rfl⟩
abbrev main_call7_c : Ref sig .tc := ⟨.hbm, 156, rfl⟩
abbrev main_call7_v9 : Ref sig .tc := ⟨.hbm, 157, rfl⟩
abbrev main_call7_v10 : Ref sig .tc := ⟨.hbm, 158, rfl⟩
abbrev main_call7_v11 : Ref sig .tc := ⟨.hbm, 159, rfl⟩
abbrev main_call7_c_0 : Ref sig .tc := ⟨.hbm, 160, rfl⟩
abbrev main_call7_v12 : Ref sig .tc := ⟨.hbm, 161, rfl⟩
abbrev main_call7_v13 : Ref sig .tc := ⟨.hbm, 162, rfl⟩
abbrev main_v23 : Ref sig .tc := ⟨.hbm, 163, rfl⟩
abbrev main_c_9 : Ref sig .tc := ⟨.hbm, 164, rfl⟩
abbrev main_call8_v0 : Ref sig .tc := ⟨.hbm, 165, rfl⟩
abbrev main_call8_c : Ref sig .tc := ⟨.hbm, 166, rfl⟩
abbrev main_call8_v1 : Ref sig .tc := ⟨.hbm, 167, rfl⟩
abbrev main_call8_c_0 : Ref sig .tc := ⟨.hbm, 168, rfl⟩
abbrev main_call8_v2 : Ref sig .tc := ⟨.hbm, 169, rfl⟩
abbrev main_call8_v3 : Ref sig .tc := ⟨.hbm, 170, rfl⟩
abbrev main_call8_v4 : Ref sig .tc := ⟨.hbm, 171, rfl⟩
abbrev main_call8_c_1 : Ref sig .tc := ⟨.hbm, 172, rfl⟩
abbrev main_call8_v5 : Ref sig .tc := ⟨.hbm, 173, rfl⟩
abbrev main_call8_v6 : Ref sig .tc := ⟨.hbm, 174, rfl⟩
abbrev main_call8_c_2 : Ref sig .tc := ⟨.hbm, 175, rfl⟩
abbrev main_call8_v7 : Ref sig .tc := ⟨.hbm, 176, rfl⟩
abbrev main_call8_v8 : Ref sig .tc := ⟨.hbm, 177, rfl⟩
abbrev main_call8_c_3 : Ref sig .tc := ⟨.hbm, 178, rfl⟩
abbrev main_call8_v9 : Ref sig .tc := ⟨.hbm, 179, rfl⟩
abbrev main_call8_v10 : Ref sig .tc := ⟨.hbm, 180, rfl⟩
abbrev main_call8_v11 : Ref sig .tc := ⟨.hbm, 181, rfl⟩
abbrev main_call8_v12 : Ref sig .tc := ⟨.hbm, 182, rfl⟩
abbrev main_call8_v13 : Ref sig .tc := ⟨.hbm, 183, rfl⟩
abbrev main_call8_v14 : Ref sig .tc := ⟨.hbm, 184, rfl⟩
abbrev main_v24 : Ref sig .tc := ⟨.hbm, 185, rfl⟩
abbrev main_v25 : Ref sig .tc := ⟨.hbm, 186, rfl⟩
abbrev main_v26 : Ref sig .tc := ⟨.hbm, 187, rfl⟩
abbrev main_v27 : Ref sig .tc := ⟨.hbm, 188, rfl⟩
abbrev main_v28 : Ref sig .tc := ⟨.hbm, 189, rfl⟩
abbrev main_v29 : Ref sig .tc := ⟨.hbm, 190, rfl⟩
abbrev main_c_10 : Ref sig .tc := ⟨.hbm, 191, rfl⟩
abbrev main_call9_v0 : Ref sig .tc := ⟨.hbm, 192, rfl⟩
abbrev main_call9_c : Ref sig .tc := ⟨.hbm, 193, rfl⟩
abbrev main_call9_v1 : Ref sig .tc := ⟨.hbm, 194, rfl⟩
abbrev main_call9_c_0 : Ref sig .tc := ⟨.hbm, 195, rfl⟩
abbrev main_call9_v2 : Ref sig .tc := ⟨.hbm, 196, rfl⟩
abbrev main_call9_v3 : Ref sig .tc := ⟨.hbm, 197, rfl⟩
abbrev main_call9_v4 : Ref sig .tc := ⟨.hbm, 198, rfl⟩
abbrev main_call9_c_1 : Ref sig .tc := ⟨.hbm, 199, rfl⟩
abbrev main_call9_v5 : Ref sig .tc := ⟨.hbm, 200, rfl⟩
abbrev main_call9_v6 : Ref sig .tc := ⟨.hbm, 201, rfl⟩
abbrev main_call9_c_2 : Ref sig .tc := ⟨.hbm, 202, rfl⟩
abbrev main_call9_v7 : Ref sig .tc := ⟨.hbm, 203, rfl⟩
abbrev main_call9_v8 : Ref sig .tc := ⟨.hbm, 204, rfl⟩
abbrev main_call9_c_3 : Ref sig .tc := ⟨.hbm, 205, rfl⟩
abbrev main_call9_v9 : Ref sig .tc := ⟨.hbm, 206, rfl⟩
abbrev main_call9_v10 : Ref sig .tc := ⟨.hbm, 207, rfl⟩
abbrev main_call9_v11 : Ref sig .tc := ⟨.hbm, 208, rfl⟩
abbrev main_call9_v12 : Ref sig .tc := ⟨.hbm, 209, rfl⟩
abbrev main_call9_v13 : Ref sig .tc := ⟨.hbm, 210, rfl⟩
abbrev main_call9_v14 : Ref sig .tc := ⟨.hbm, 211, rfl⟩
abbrev main_v30 : Ref sig .tc := ⟨.hbm, 212, rfl⟩
abbrev main_v31 : Ref sig .tc := ⟨.hbm, 213, rfl⟩
abbrev main_v32 : Ref sig .tc := ⟨.hbm, 214, rfl⟩
abbrev main_v33 : Ref sig .tc := ⟨.hbm, 215, rfl⟩
abbrev main_v34 : Ref sig .tc := ⟨.hbm, 216, rfl⟩
abbrev main_v35 : Ref sig .tc := ⟨.hbm, 217, rfl⟩
abbrev main_v36 : Ref sig .tc := ⟨.hbm, 218, rfl⟩
abbrev main_c_11 : Ref sig .tc := ⟨.hbm, 219, rfl⟩
abbrev main_call10_v0 : Ref sig .tc := ⟨.hbm, 220, rfl⟩
abbrev main_call10_v1 : Ref sig .tc := ⟨.hbm, 221, rfl⟩
abbrev main_call10_v2 : Ref sig .tc := ⟨.hbm, 222, rfl⟩
abbrev main_call10_v3 : Ref sig .tc := ⟨.hbm, 223, rfl⟩
abbrev main_call10_v4 : Ref sig .tc := ⟨.hbm, 224, rfl⟩
abbrev main_call10_v5 : Ref sig .tc := ⟨.hbm, 225, rfl⟩
abbrev main_call10_v6 : Ref sig .tc := ⟨.hbm, 226, rfl⟩
abbrev main_call10_v7 : Ref sig .tc := ⟨.hbm, 227, rfl⟩
abbrev main_call10_v8 : Ref sig .tc := ⟨.hbm, 228, rfl⟩
abbrev main_call10_c : Ref sig .tc := ⟨.hbm, 229, rfl⟩
abbrev main_call10_v9 : Ref sig .tc := ⟨.hbm, 230, rfl⟩
abbrev main_call10_v10 : Ref sig .tc := ⟨.hbm, 231, rfl⟩
abbrev main_call10_v11 : Ref sig .tc := ⟨.hbm, 232, rfl⟩
abbrev main_call10_c_0 : Ref sig .tc := ⟨.hbm, 233, rfl⟩
abbrev main_call10_v12 : Ref sig .tc := ⟨.hbm, 234, rfl⟩
abbrev main_call10_v13 : Ref sig .tc := ⟨.hbm, 235, rfl⟩
abbrev main_v37 : Ref sig .tc := ⟨.hbm, 236, rfl⟩
abbrev main_c_12 : Ref sig .tc := ⟨.hbm, 237, rfl⟩
abbrev main_v38 : Ref sig .tc := ⟨.hbm, 238, rfl⟩
abbrev main_v39 : Ref sig .tc := ⟨.hbm, 239, rfl⟩
abbrev main_v40 : Ref sig .tc := ⟨.hbm, 240, rfl⟩
abbrev main_v41 : Ref sig .tc := ⟨.hbm, 241, rfl⟩
abbrev main_v42 : Ref sig .tc := ⟨.hbm, 242, rfl⟩
abbrev main_v43 : Ref sig .tc := ⟨.hbm, 243, rfl⟩
abbrev main_v44 : Ref sig .tc := ⟨.hbm, 244, rfl⟩
abbrev main_v45 : Ref sig .tc := ⟨.hbm, 245, rfl⟩
abbrev main_v46 : Ref sig .tc := ⟨.hbm, 246, rfl⟩
abbrev main_v47 : Ref sig .tc := ⟨.hbm, 247, rfl⟩
abbrev main_v48 : Ref sig .tc := ⟨.hbm, 248, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c6_i32 : BitVec 32 := 6#32
  let c0_i32_0 : BitVec 32 := 0#32
  ![c0_i32.toNat, c6_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S16x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S32x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S32x2048x1024 : Shape := ⟨3, ![32, 2048, 1024]⟩
abbrev S1x1024 : Shape := ⟨2, ![1, 1024]⟩
abbrev S1x1024x6144 : Shape := ⟨3, ![1, 1024, 6144]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S1024x6144 : Shape := ⟨2, ![1024, 6144]⟩
abbrev S32x2048x6144 : Shape := ⟨3, ![32, 2048, 6144]⟩
abbrev S32x2048x512 : Shape := ⟨3, ![32, 2048, 512]⟩
abbrev S32x16x128x32x16 : Shape := ⟨5, ![32, 16, 128, 32, 16]⟩
abbrev S32x16x32x128x16 : Shape := ⟨5, ![32, 16, 32, 128, 16]⟩
abbrev S32x4096x256 : Shape := ⟨3, ![32, 4096, 256]⟩

abbrev nBuf : Space → Nat
  | .hbm => 33
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S1x1024x6144, .f32⟩
  | .hbm, ⟨3, _⟩ => ⟨S1024, .f32⟩
  | .hbm, ⟨4, _⟩ => ⟨S32x2048x1024, .f32⟩
  | .hbm, ⟨5, _⟩ => ⟨S_, .f32⟩
  | .hbm, ⟨6, _⟩ => ⟨S32x2048, .f32⟩
  | .hbm, ⟨7, _⟩ => ⟨S32x2048x1, .f32⟩
  | .hbm, ⟨8, _⟩ => ⟨S_, .f32⟩
  | .hbm, ⟨9, _⟩ => ⟨S32x2048x1, .f32⟩
  | .hbm, ⟨10, _⟩ => ⟨S32x2048x1, .f32⟩
  | .hbm, ⟨11, _⟩ => ⟨S_, .f32⟩
  | .hbm, ⟨12, _⟩ => ⟨S32x2048x1, .f32⟩
  | .hbm, ⟨13, _⟩ => ⟨S32x2048x1, .f32⟩
  | .hbm, ⟨14, _⟩ => ⟨S32x2048x1, .f32⟩
  | .hbm, ⟨15, _⟩ => ⟨S32x2048x1024, .f32⟩
  | .hbm, ⟨16, _⟩ => ⟨S32x2048x1024, .f32⟩
  | .hbm, ⟨17, _⟩ => ⟨S1x1x1024, .f32⟩
  | .hbm, ⟨18, _⟩ => ⟨S32x2048x1024, .f32⟩
  | .hbm, ⟨19, _⟩ => ⟨S32x2048x1024, .f32⟩
  | .hbm, ⟨20, _⟩ => ⟨S1024x6144, .f32⟩
  | .hbm, ⟨21, _⟩ => ⟨S32x2048x6144, .f32⟩
  | .hbm, ⟨22, _⟩ => ⟨S32x2048x1024, .f32⟩
  | .hbm, ⟨23, _⟩ => ⟨S32x2048x1024, .f32⟩
  | .hbm, ⟨24, _⟩ => ⟨S32x2048x1024, .f32⟩
  | .hbm, ⟨25, _⟩ => ⟨S32x2048x512, .f32⟩
  | .hbm, ⟨26, _⟩ => ⟨S32x2048x512, .f32⟩
  | .hbm, ⟨27, _⟩ => ⟨S32x2048x1024, .f32⟩
  | .hbm, ⟨28, _⟩ => ⟨S32x2048x1024, .f32⟩
  | .hbm, ⟨29, _⟩ => ⟨S32x16x128x32x16, .f32⟩
  | .hbm, ⟨30, _⟩ => ⟨S32x16x32x128x16, .f32⟩
  | .hbm, ⟨31, _⟩ => ⟨S32x4096x256, .f32⟩
  | .hbm, ⟨32, _⟩ => ⟨S32x4096x256, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩

abbrev nD : Nat := 1
abbrev τ : Topo := Topo.v7x

variable {F : FTy → Type} [FloatOps F]
-- ==== Kernel3.lean ====
abbrev S32x4096x256 : Shape := ⟨3, ![32, 4096, 256]⟩
abbrev S1x32x64 : Shape := ⟨3, ![1, 32, 64]⟩
abbrev S1x32 : Shape := ⟨2, ![1, 32]⟩
abbrev S1x32x64x16 : Shape := ⟨4, ![1, 32, 64, 16]⟩
abbrev S1x32x16x64 : Shape := ⟨4, ![1, 32, 16, 64]⟩
abbrev S1x512 : Shape := ⟨2, ![1, 512]⟩
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S512 : Shape := ⟨1, ![512]⟩
abbrev S32x1 : Shape := ⟨2, ![32, 1]⟩
abbrev S_ : Shape := ⟨0, ![]⟩
abbrev S32x64x1 : Shape := ⟨3, ![32, 64, 1]⟩
abbrev S17 : Shape := ⟨1, ![17]⟩
abbrev S1x1x17 : Shape := ⟨3, ![1, 1, 17]⟩
abbrev S32x64x17 : Shape := ⟨3, ![32, 64, 17]⟩
abbrev S256 : Shape := ⟨1, ![256]⟩
abbrev S16 : Shape := ⟨1, ![16]⟩
abbrev S16x1 : Shape := ⟨2, ![16, 1]⟩
abbrev S1x256 : Shape := ⟨2, ![1, 256]⟩
abbrev S16x256 : Shape := ⟨2, ![16, 256]⟩
abbrev S32x64x16x16 : Shape := ⟨4, ![32, 64, 16, 16]⟩
abbrev S32x64x256 : Shape := ⟨3, ![32, 64, 256]⟩
abbrev S32x64x768 : Shape := ⟨3, ![32, 64, 768]⟩
abbrev S32x16x256 : Shape := ⟨3, ![32, 16, 256]⟩
abbrev S32x16 : Shape := ⟨2, ![32, 16]⟩
abbrev S32x16x1 : Shape := ⟨3, ![32, 16, 1]⟩
abbrev S16x16 : Shape := ⟨2, ![16, 16]⟩
abbrev S1x16x16 : Shape := ⟨3, ![1, 16, 16]⟩
abbrev S32x16x16 : Shape := ⟨3, ![32, 16, 16]⟩
abbrev S32x16x496 : Shape := ⟨3, ![32, 16, 496]⟩
abbrev S32x1x16x256 : Shape := ⟨4, ![32, 1, 16, 256]⟩
abbrev S32x16x16x256 : Shape := ⟨4, ![32, 16, 16, 256]⟩
abbrev S16x2x256x256 : Shape := ⟨4, ![16, 2, 256, 256]⟩
abbrev S16x2x64x256 : Shape := ⟨4, ![16, 2, 64, 256]⟩
abbrev S16x64x256 : Shape := ⟨3, ![16, 64, 256]⟩
abbrev S16x1x64x256 : Shape := ⟨4, ![16, 1, 64, 256]⟩
abbrev S16x64x512 : Shape := ⟨3, ![16, 64, 512]⟩
abbrev S16x128x512 : Shape := ⟨3, ![16, 128, 512]⟩
abbrev S16x256x512 : Shape := ⟨3, ![16, 256, 512]⟩
abbrev S16x512x256 : Shape := ⟨3, ![16, 512, 256]⟩
abbrev S16x128 : Shape := ⟨2, ![16, 128]⟩
abbrev S16x1x128 : Shape := ⟨3, ![16, 1, 128]⟩
abbrev S16x2x128 : Shape := ⟨3, ![16, 2, 128]⟩
abbrev S16x2x4096x256 : Shape := ⟨4, ![16, 2, 4096, 256]⟩
abbrev S1x2x4096x256 : Shape := ⟨4, ![1, 2, 4096, 256]⟩
abbrev S1x2x256x256 : Shape := ⟨4, ![1, 2, 256, 256]⟩
abbrev S1x512x256 : Shape := ⟨3, ![1, 512, 256]⟩
abbrev S1x256x512 : Shape := ⟨3, ![1, 256, 512]⟩
abbrev S1x2x128 : Shape := ⟨3, ![1, 2, 128]⟩
abbrev S2x4096x128 : Shape := ⟨3, ![2, 4096, 128]⟩
abbrev S1x1x128 : Shape := ⟨3, ![1, 1, 128]⟩
abbrev S1x128 : Shape := ⟨2, ![1, 128]⟩
abbrev S32x128 : Shape := ⟨2, ![32, 128]⟩
abbrev S256x512 : Shape := ⟨2, ![256, 512]⟩
abbrev S1x1x256x256 : Shape := ⟨4, ![1, 1, 256, 256]⟩
abbrev S256x256 : Shape := ⟨2, ![256, 256]⟩
abbrev S512x256 : Shape := ⟨2, ![512, 256]⟩
abbrev S256x128 : Shape := ⟨2, ![256, 128]⟩
abbrev S1x256x128 : Shape := ⟨3, ![1, 256, 128]⟩
abbrev S1x32x128 : Shape := ⟨3, ![1, 32, 128]⟩

abbrev nBuf : Space → Nat
  | .hbm => 277
  | .vmem => 14
  | .smem => 0
  | _ => 0

abbrev hbmTy0_0 (i : Nat) : BufTy := match i % 128 with
  | 0 => ⟨S32x4096x256, .bf16⟩
  | 1 => ⟨S1x32x64, .f32⟩
  | 2 => ⟨S1x32x64, .f32⟩
  | 3 => ⟨S1x32, .f32⟩
  | 4 => ⟨S1x32x64x16, .f32⟩
  | 5 => ⟨S1x32x64x16, .f32⟩
  | 6 => ⟨S1x32x16x64, .f32⟩
  | 7 => ⟨S1x32x16x64, .f32⟩
  | 8 => ⟨S1x512, .f32⟩
  | 9 => ⟨S32x64, .f32⟩
  | 10 => ⟨S32x64, .f32⟩
  | 11 => ⟨S32, .f32⟩
  | 12 => ⟨S32x64x16, .f32⟩
  | 13 => ⟨S32x64x16, .f32⟩
  | 14 => ⟨S32x16x64, .f32⟩
  | 15 => ⟨S32x16x64, .f32⟩
  | 16 => ⟨S512, .f32⟩
  | 17 => ⟨S32, .f32⟩
  | 18 => ⟨S32x1, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S32x64, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S_, .f32⟩
  | 34 => ⟨S32x64, .f32⟩
  | 35 => ⟨S32x64, .f32⟩
  | 36 => ⟨S32x64, .f32⟩
  | 37 => ⟨S32x64, .f32⟩
  | 38 => ⟨S32x64, .f32⟩
  | 39 => ⟨S32x64, .f32⟩
  | 40 => ⟨S32x64x1, .f32⟩
  | 41 => ⟨S32x64, .f32⟩
  | 42 => ⟨S32x64, .f32⟩
  | 43 => ⟨S32x64, .f32⟩
  | 44 => ⟨S32x64, .f32⟩
  | 45 => ⟨S32x64x1, .f32⟩
  | 46 => ⟨S32x64x16, .f32⟩
  | 47 => ⟨S32x64x16, .f32⟩
  | 48 => ⟨S32x64x16, .f32⟩
  | 49 => ⟨S32x64x16, .f32⟩
  | 50 => ⟨S32x64x16, .f32⟩
  | 51 => ⟨S32x64x16, .f32⟩
  | 52 => ⟨S32x64x16, .f32⟩
  | 53 => ⟨S32x64x16, .f32⟩
  | 54 => ⟨S32x64x16, .f32⟩
  | 55 => ⟨S32x64x16, .f32⟩
  | 56 => ⟨S17, .f32⟩
  | 57 => ⟨S32x64, .f32⟩
  | 58 => ⟨S32x64, .f32⟩
  | 59 => ⟨S32x64x1, .f32⟩
  | 60 => ⟨S1x1x17, .f32⟩
  | 61 => ⟨S32x64x17, .f32⟩
  | 62 => ⟨S32x64x17, .f32⟩
  | 63 => ⟨S32x64x17, .f32⟩
  | 64 => ⟨S32x64x17, .f32⟩
  | 65 => ⟨S32x64, .f32⟩
  | 66 => ⟨S32x64, .f32⟩
  | 67 => ⟨S32x64x1, .f32⟩
  | 68 => ⟨S1x1x17, .f32⟩
  | 69 => ⟨S32x64x17, .f32⟩
  | 70 => ⟨S32x64x17, .f32⟩
  | 71 => ⟨S32x64x17, .f32⟩
  | 72 => ⟨S32x64x17, .f32⟩
  | 73 => ⟨S32x64x17, .f32⟩
  | 74 => ⟨S32x64x17, .f32⟩
  | 75 => ⟨S32x64x17, .f32⟩
  | 76 => ⟨S256, .i32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S256, .i32⟩
  | 84 => ⟨S256, .i32⟩
  | 85 => ⟨S_, .i32⟩
  | 86 => ⟨S256, .i32⟩
  | 87 => ⟨S256, .i1⟩
  | 88 => ⟨S_, .i32⟩
  | 89 => ⟨S256, .i32⟩
  | 90 => ⟨S256, .i1⟩
  | 91 => ⟨S_, .i32⟩
  | 92 => ⟨S_, .i1⟩
  | 93 => ⟨S256, .i1⟩
  | 94 => ⟨S256, .i1⟩
  | 95 => ⟨S256, .i1⟩
  | 96 => ⟨S256, .i32⟩
  | 97 => ⟨S256, .i32⟩
  | 98 => ⟨S256, .i32⟩
  | 99 => ⟨S16, .i32⟩
  | 100 => ⟨S16x1, .i32⟩
  | 101 => ⟨S1x256, .i32⟩
  | 102 => ⟨S16x256, .i32⟩
  | 103 => ⟨S16x256, .i32⟩
  | 104 => ⟨S16x256, .i1⟩
  | 105 => ⟨S16x256, .f32⟩
  | 106 => ⟨S32x64x16, .f32⟩
  | 107 => ⟨S32x64x16, .f32⟩
  | 108 => ⟨S32x64x16, .f32⟩
  | 109 => ⟨S32x64x16, .f32⟩
  | 110 => ⟨S32x64x16x16, .f32⟩
  | 111 => ⟨S32x64x256, .f32⟩
  | 112 => ⟨S32x64x16x16, .f32⟩
  | 113 => ⟨S32x64x256, .f32⟩
  | 114 => ⟨S32x64x16x16, .f32⟩
  | 115 => ⟨S32x64x256, .f32⟩
  | 116 => ⟨S32x64x768, .f32⟩
  | 117 => ⟨S32x64x16, .f32⟩
  | 118 => ⟨S32x64x16, .f32⟩
  | 119 => ⟨S32x64x16, .f32⟩
  | 120 => ⟨S32x64x16, .f32⟩
  | 121 => ⟨S32x64x16x16, .f32⟩
  | 122 => ⟨S32x64x256, .f32⟩
  | 123 => ⟨S32x64x16x16, .f32⟩
  | 124 => ⟨S32x64x256, .f32⟩
  | 125 => ⟨S32x64x16x16, .f32⟩
  | 126 => ⟨S32x64x256, .f32⟩
  | 127 => ⟨S32x64x768, .f32⟩
  | _ => ⟨S32x4096x256, .bf16⟩

abbrev hbmTy0_1 (i : Nat) : BufTy := match i % 128 with
  | 0 => ⟨S32x64x256, .f32⟩
  | 1 => ⟨S32x64x256, .f32⟩
  | 2 => ⟨S32x64x256, .f32⟩
  | 3 => ⟨S32x64x256, .f32⟩
  | 4 => ⟨S32x64x256, .f32⟩
  | 5 => ⟨S32x64x256, .f32⟩
  | 6 => ⟨S32x64x256, .f32⟩
  | 7 => ⟨S32x64x256, .f32⟩
  | 8 => ⟨S32x64x256, .f32⟩
  | 9 => ⟨S32x64x256, .f32⟩
  | 10 => ⟨S32x64x256, .f32⟩
  | 11 => ⟨S32x64x256, .f32⟩
  | 12 => ⟨S32x64x256, .f32⟩
  | 13 => ⟨S32x64x256, .f32⟩
  | 14 => ⟨S32x64x256, .f32⟩
  | 15 => ⟨S32x64x256, .f32⟩
  | 16 => ⟨S32x64x256, .f32⟩
  | 17 => ⟨S32x64x256, .f32⟩
  | 18 => ⟨S32x16x256, .f32⟩
  | 19 => ⟨S32x16x256, .f32⟩
  | 20 => ⟨S32x16x256, .f32⟩
  | 21 => ⟨S32x16, .f32⟩
  | 22 => ⟨S32x16x1, .f32⟩
  | 23 => ⟨S16x16, .i32⟩
  | 24 => ⟨S16x16, .i32⟩
  | 25 => ⟨S_, .i32⟩
  | 26 => ⟨S16x16, .i32⟩
  | 27 => ⟨S16x16, .i32⟩
  | 28 => ⟨S16x16, .i1⟩
  | 29 => ⟨S16x16, .f32⟩
  | 30 => ⟨S1x16x16, .f32⟩
  | 31 => ⟨S32x16x16, .f32⟩
  | 32 => ⟨S32x16x16, .f32⟩
  | 33 => ⟨S32x16x16, .f32⟩
  | 34 => ⟨S_, .i32⟩
  | 35 => ⟨S_, .f32⟩
  | 36 => ⟨S32x16x256, .f32⟩
  | 37 => ⟨S32x16x256, .f32⟩
  | 38 => ⟨S_, .i32⟩
  | 39 => ⟨S_, .f32⟩
  | 40 => ⟨S32x16x496, .f32⟩
  | 41 => ⟨S32x16x256, .f32⟩
  | 42 => ⟨S32x16x256, .f32⟩
  | 43 => ⟨S32x16x256, .f32⟩
  | 44 => ⟨S32x16x256, .f32⟩
  | 45 => ⟨S32x16x256, .f32⟩
  | 46 => ⟨S32x16x256, .f32⟩
  | 47 => ⟨S32x16x256, .f32⟩
  | 48 => ⟨S32x16x256, .f32⟩
  | 49 => ⟨S32x16x256, .f32⟩
  | 50 => ⟨S32x16x256, .f32⟩
  | 51 => ⟨S32x16x256, .f32⟩
  | 52 => ⟨S32x16x256, .f32⟩
  | 53 => ⟨S32x16x256, .f32⟩
  | 54 => ⟨S32x16x256, .f32⟩
  | 55 => ⟨S32x16x256, .f32⟩
  | 56 => ⟨S32x16x256, .f32⟩
  | 57 => ⟨S32x1x16x256, .f32⟩
  | 58 => ⟨S32x1x16x256, .f32⟩
  | 59 => ⟨S32x1x16x256, .f32⟩
  | 60 => ⟨S32x1x16x256, .f32⟩
  | 61 => ⟨S32x1x16x256, .f32⟩
  | 62 => ⟨S32x1x16x256, .f32⟩
  | 63 => ⟨S32x1x16x256, .f32⟩
  | 64 => ⟨S32x1x16x256, .f32⟩
  | 65 => ⟨S32x1x16x256, .f32⟩
  | 66 => ⟨S32x1x16x256, .f32⟩
  | 67 => ⟨S32x1x16x256, .f32⟩
  | 68 => ⟨S32x1x16x256, .f32⟩
  | 69 => ⟨S32x1x16x256, .f32⟩
  | 70 => ⟨S32x1x16x256, .f32⟩
  | 71 => ⟨S32x1x16x256, .f32⟩
  | 72 => ⟨S32x1x16x256, .f32⟩
  | 73 => ⟨S32x16x16x256, .f32⟩
  | 74 => ⟨S16x2x256x256, .f32⟩
  | 75 => ⟨S32x64x256, .f32⟩
  | 76 => ⟨S32x64x256, .f32⟩
  | 77 => ⟨S32x64x256, .f32⟩
  | 78 => ⟨S32x64x256, .f32⟩
  | 79 => ⟨S32x64x256, .f32⟩
  | 80 => ⟨S32x64x256, .f32⟩
  | 81 => ⟨S32x64x256, .f32⟩
  | 82 => ⟨S32x64x256, .f32⟩
  | 83 => ⟨S32x64x256, .f32⟩
  | 84 => ⟨S32x64x256, .f32⟩
  | 85 => ⟨S16x2x64x256, .f32⟩
  | 86 => ⟨S_, .f32⟩
  | 87 => ⟨S16x64x256, .f32⟩
  | 88 => ⟨S16x1x64x256, .f32⟩
  | 89 => ⟨S16x64x256, .f32⟩
  | 90 => ⟨S16x64x512, .f32⟩
  | 91 => ⟨S16x1x64x256, .f32⟩
  | 92 => ⟨S16x64x256, .f32⟩
  | 93 => ⟨S16x64x512, .f32⟩
  | 94 => ⟨S16x128x512, .f32⟩
  | 95 => ⟨S16x2x64x256, .f32⟩
  | 96 => ⟨S_, .f32⟩
  | 97 => ⟨S16x64x256, .f32⟩
  | 98 => ⟨S16x1x64x256, .f32⟩
  | 99 => ⟨S16x64x256, .f32⟩
  | 100 => ⟨S16x64x512, .f32⟩
  | 101 => ⟨S16x1x64x256, .f32⟩
  | 102 => ⟨S16x64x256, .f32⟩
  | 103 => ⟨S16x64x512, .f32⟩
  | 104 => ⟨S16x128x512, .f32⟩
  | 105 => ⟨S16x256x512, .f32⟩
  | 106 => ⟨S16x256x512, .bf16⟩
  | 107 => ⟨S16x512x256, .bf16⟩
  | 108 => ⟨S16x2x64x256, .f32⟩
  | 109 => ⟨S_, .f32⟩
  | 110 => ⟨S16x64x256, .f32⟩
  | 111 => ⟨S16x1x64x256, .f32⟩
  | 112 => ⟨S16x64x256, .f32⟩
  | 113 => ⟨S16x64x512, .f32⟩
  | 114 => ⟨S16x1x64x256, .f32⟩
  | 115 => ⟨S16x64x256, .f32⟩
  | 116 => ⟨S16x64x512, .f32⟩
  | 117 => ⟨S16x128x512, .f32⟩
  | 118 => ⟨S32x64x256, .f32⟩
  | 119 => ⟨S16x2x64x256, .f32⟩
  | 120 => ⟨S_, .f32⟩
  | 121 => ⟨S16x64x256, .f32⟩
  | 122 => ⟨S16x1x64x256, .f32⟩
  | 123 => ⟨S16x64x256, .f32⟩
  | 124 => ⟨S16x64x512, .f32⟩
  | 125 => ⟨S16x1x64x256, .f32⟩
  | 126 => ⟨S16x64x256, .f32⟩
  | 127 => ⟨S16x64x512, .f32⟩
  | _ => ⟨S32x4096x256, .bf16⟩

abbrev hbmTy0_2 (i : Nat) : BufTy := match i % 128 with
  | 0 => ⟨S16x128x512, .f32⟩
  | 1 => ⟨S16x256x512, .f32⟩
  | 2 => ⟨S32x64x1, .f32⟩
  | 3 => ⟨S32x64, .f32⟩
  | 4 => ⟨S16x128, .f32⟩
  | 5 => ⟨S32x64x1, .f32⟩
  | 6 => ⟨S32x64, .f32⟩
  | 7 => ⟨S16x128, .f32⟩
  | 8 => ⟨S16x1x128, .f32⟩
  | 9 => ⟨S16x1x128, .f32⟩
  | 10 => ⟨S16x2x128, .f32⟩
  | 11 => ⟨S_, .f32⟩
  | 12 => ⟨S16x2x256x256, .f32⟩
  | 13 => ⟨S16x2x256x256, .f32⟩
  | 14 => ⟨S16x2x256x256, .bf16⟩
  | 15 => ⟨S_, .f32⟩
  | 16 => ⟨S16x256x512, .f32⟩
  | 17 => ⟨S16x256x512, .f32⟩
  | 18 => ⟨S16x256x512, .bf16⟩
  | 19 => ⟨S16x2x4096x256, .bf16⟩
  | 20 => ⟨S16x2x4096x256, .bf16⟩
  | _ => ⟨S32x4096x256, .bf16⟩

abbrev hbmTy (i : Nat) : BufTy := match i / 128 with
  | 0 => hbmTy0_0 i
  | 1 => hbmTy0_1 i
  | 2 => hbmTy0_2 i
  | _ => ⟨S32x4096x256, .bf16⟩

abbrev bufTy : (tb : Table) → Fin (tcTables nBuf tb) → BufTy
  | .hbm, ⟨i, _⟩ => hbmTy i
  | .local _ .vmem, ⟨0, _⟩ => ⟨S1x2x4096x256, .bf16⟩
  | .local _ .vmem, ⟨1, _⟩ => ⟨S1x2x4096x256, .bf16⟩
  | .local _ .vmem, ⟨2, _⟩ => ⟨S1x2x256x256, .bf16⟩
  | .local _ .vmem, ⟨3, _⟩ => ⟨S1x2x256x256, .bf16⟩
  | .local _ .vmem, ⟨4, _⟩ => ⟨S1x512x256, .bf16⟩
  | .local _ .vmem, ⟨5, _⟩ => ⟨S1x512x256, .bf16⟩
  | .local _ .vmem, ⟨6, _⟩ => ⟨S1x256x512, .bf16⟩
  | .local _ .vmem, ⟨7, _⟩ => ⟨S1x256x512, .bf16⟩
  | .local _ .vmem, ⟨8, _⟩ => ⟨S1x2x128, .f32⟩
  | .local _ .vmem, ⟨9, _⟩ => ⟨S1x2x128, .f32⟩
  | .local _ .vmem, ⟨10, _⟩ => ⟨S1x2x4096x256, .bf16⟩
  | .local _ .vmem, ⟨11, _⟩ => ⟨S1x2x4096x256, .bf16⟩
  | .local _ .vmem, ⟨12, _⟩ => ⟨S2x4096x128, .f32⟩
  | .local _ .vmem, ⟨13, _⟩ => ⟨S2x4096x128, .f32⟩
  | _, _ => ⟨S32x4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_c : Ref sig .tc := ⟨.hbm, 77, rfl⟩
abbrev main_call0_v0 : Ref sig .tc := ⟨.hbm, 78, rfl⟩
abbrev main_call0_c : Ref sig .tc := ⟨.hbm, 79, rfl⟩
abbrev main_call0_v1 : Ref sig .tc := ⟨.hbm, 80, rfl⟩
abbrev main_call0_c_0 : Ref sig .tc := ⟨.hbm, 81, rfl⟩
abbrev main_call0_v2 : Ref sig .tc := ⟨.hbm, 82, rfl⟩
abbrev main_call0_v3 : Ref sig .tc := ⟨.hbm, 83, rfl⟩
abbrev main_call0_v4 : Ref sig .tc := ⟨.hbm, 84, rfl⟩
abbrev main_call0_c_1 : Ref sig .tc := ⟨.hbm, 85, rfl⟩
abbrev main_call0_v5 : Ref sig .tc := ⟨.hbm, 86, rfl⟩
abbrev main_call0_v6 : Ref sig .tc := ⟨.hbm, 87, rfl⟩
abbrev main_call0_c_2 : Ref sig .tc := ⟨.hbm, 88, rfl⟩
abbrev main_call0_v7 : Ref sig .tc := ⟨.hbm, 89, rfl⟩
abbrev main_call0_v8 : Ref sig .tc := ⟨.hbm, 90, rfl⟩
abbrev main_call0_c_3 : Ref sig .tc := ⟨.hbm, 91, rfl⟩
abbrev main_call0_v9 : Ref sig .tc := ⟨.hbm, 92, rfl⟩
abbrev main_call0_v10 : Ref sig .tc := ⟨.hbm, 93, rfl⟩
abbrev main_call0_v11 : Ref sig .tc := ⟨.hbm, 94, rfl⟩
abbrev main_call0_v12 : Ref sig .tc := ⟨.hbm, 95, rfl⟩
abbrev main_call0_v13 : Ref sig .tc := ⟨.hbm, 96, rfl⟩
abbrev main_call0_v14 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_c_0 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_c_1 : Ref sig .tc := ⟨.hbm, 162, rfl⟩
abbrev main_call3_v0 : Ref sig .tc := ⟨.hbm, 163, rfl⟩
abbrev main_v130 : Ref sig .tc := ⟨.hbm, 164, rfl⟩
abbrev main_v131 : Ref sig .tc := ⟨.hbm, 165, rfl⟩
abbrev main_c_2 : Ref sig .tc := ⟨.hbm, 166, rfl⟩
abbrev main_call4_v0 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_cst_3 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_cst_4 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_cst_5 : Ref sig .tc := ⟨.hbm, 237, rfl⟩
abbrev main_v199 : Ref sig .tc := ⟨.hbm, 238, rfl⟩
abbrev main_v200 : Ref sig .tc := ⟨.hbm, 239, rfl⟩
abbrev main_v201 : Ref sig .tc := ⟨.hbm, 240, rfl⟩
abbrev main_v202 : Ref sig .tc := ⟨.hbm, 241, rfl⟩
abbrev main_v203 : Ref sig .tc := ⟨.hbm, 242, rfl⟩
abbrev main_v204 : Ref sig .tc := ⟨.hbm, 243, rfl⟩
abbrev main_v205 : Ref sig .tc := ⟨.hbm, 244, rfl⟩
abbrev main_v206 : Ref sig .tc := ⟨.hbm, 245, rfl⟩
abbrev main_v207 : Ref sig .tc := ⟨.hbm, 246, rfl⟩
abbrev main_v208 : Ref sig .tc := ⟨.hbm, 247, rfl⟩
abbrev main_cst_6 : Ref sig .tc := ⟨.hbm, 248, rfl⟩
abbrev main_v209 : Ref sig .tc := ⟨.hbm, 249, rfl⟩
abbrev main_v210 : Ref sig .tc := ⟨.hbm, 250, rfl⟩
abbrev main_v211 : Ref sig .tc := ⟨.hbm, 251, rfl⟩
abbrev main_v212 : Ref sig .tc := ⟨.hbm, 252, rfl⟩
abbrev main_v213 : Ref sig .tc := ⟨.hbm, 253, rfl⟩
abbrev main_v214 : Ref sig .tc := ⟨.hbm, 254, rfl⟩
abbrev main_v215 : Ref sig .tc := ⟨.hbm, 255, rfl⟩
abbrev main_v216 : Ref sig .tc := ⟨.hbm, 256, rfl⟩
abbrev main_v217 : Ref sig .tc := ⟨.hbm, 257, rfl⟩
abbrev main_v218 : Ref sig .tc := ⟨.hbm, 258, rfl⟩
abbrev main_v219 : Ref sig .tc := ⟨.hbm, 259, rfl⟩
abbrev main_v220 : Ref sig .tc := ⟨.hbm, 260, rfl⟩
abbrev main_v221 : Ref sig .tc := ⟨.hbm, 261, rfl⟩
abbrev main_v222 : Ref sig .tc := ⟨.hbm, 262, rfl⟩
abbrev main_v223 : Ref sig .tc := ⟨.hbm, 263, rfl⟩
abbrev main_v224 : Ref sig .tc := ⟨.hbm, 264, rfl⟩
abbrev main_v225 : Ref sig .tc := ⟨.hbm, 265, rfl⟩
abbrev main_v226 : Ref sig .tc := ⟨.hbm, 266, rfl⟩
abbrev main_cst_7 : Ref sig .tc := ⟨.hbm, 267, rfl⟩
abbrev main_v227 : Ref sig .tc := ⟨.hbm, 268, rfl⟩
abbrev main_v228 : Ref sig .tc := ⟨.hbm, 269, rfl⟩
abbrev main_v229 : Ref sig .tc := ⟨.hbm, 270, rfl⟩
abbrev main_cst_8 : Ref sig .tc := ⟨.hbm, 271, rfl⟩
abbrev main_v230 : Ref sig .tc := ⟨.hbm, 272, rfl⟩
abbrev main_v231 : Ref sig .tc := ⟨.hbm, 273, rfl⟩
abbrev main_v232 : Ref sig .tc := ⟨.hbm, 274, rfl⟩
abbrev main_v233 : Ref sig .tc := ⟨.hbm, 275, rfl⟩
abbrev main_v234 : Ref sig .tc := ⟨.hbm, 276, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x2x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Proof.Chunk.lean ====
/- The mathematics of one chunk of 128 positions, over the extended reals: the kernel's way of computing a row of the
   result (halved weights, `tanh` for the gates, the layer norm's gain and bias moved past the position mixing) and the
   reference's way, and that both merge the two mixers into the same array. -/
module

public import Idealize.ShloMosaic.PureOps.Ideal.Laws

@[expose] public section

noncomputable section

namespace Cert.Chunk

open Idealize.ShloMosaic

/-! ## The constants -/

/-- The single-precision number nearest to the square root of `2/π`. -/
abbrev cG : ℝ := 6693141 / 8388608
/-- The single-precision number nearest to `0.044715`. -/
abbrev kG : ℝ := 12003091 / 268435456
/-- The single-precision number nearest to `10⁻⁶`. -/
abbrev epsR : ℝ := 8796093 / 8796093022208

/-! ## Real values -/

/-- The extended real `x` is a real number. -/
def IsR (x : EReal) : Prop := ∃ r : ℝ, x = (r : EReal)

theorem isR_coe (r : ℝ) : IsR (r : EReal) := ⟨r, rfl⟩
theorem IsR.add {x y : EReal} : IsR x → IsR y → IsR (x + y)
  | ⟨a, ha⟩, ⟨b, hb⟩ => ⟨a + b, by rw [ha, hb, EReal.coe_add]⟩
theorem IsR.sub {x y : EReal} : IsR x → IsR y → IsR (x - y)
  | ⟨a, ha⟩, ⟨b, hb⟩ => ⟨a - b, by rw [ha, hb, EReal.coe_sub]⟩
theorem IsR.mul {x y : EReal} : IsR x → IsR y → IsR (x * y)
  | ⟨a, ha⟩, ⟨b, hb⟩ => ⟨a * b, by rw [ha, hb, EReal.coe_mul]⟩
theorem IsR.tanh {x : EReal} : IsR x → IsR (Ideal.tanh x)
  | ⟨a, ha⟩ => ⟨Real.tanh a, by rw [ha, Ideal.tanh_coe]⟩

theorem coe_sum {n : ℕ} (f : Fin n → ℝ) : ((∑ k, f k : ℝ) : EReal) = ∑ k, (f k : EReal) :=
  map_sum (⟨⟨Real.toEReal, EReal.coe_zero⟩, EReal.coe_add⟩ : ℝ →+ EReal) f Finset.univ

theorem IsR.sum {n : ℕ} {f : Fin n → EReal} (h : ∀ k, IsR (f k)) : IsR (∑ k, f k) := by
  choose r hr using h
  exact ⟨∑ k, r k, by simp only [hr, coe_sum]⟩

theorem isR_of_ne {x : EReal} (h₁ : x ≠ ⊤) (h₂ : x ≠ ⊥) : IsR x := ⟨x.toReal, (EReal.coe_toReal h₁ h₂).symm⟩

/-! ## The two programs' functions of a number -/

/-- The kernel's `gelu (2 h)`. -/
def geluH (h : EReal) : EReal :=
  h + h * Ideal.tanh (h * (((2 * cG : ℝ) : EReal) + ((8 * cG * kG : ℝ) : EReal) * (h * h)))

/-- The reference's `gelu`. -/
def gelu (x : EReal) : EReal :=
  x * (((1 / 2 : ℝ) : EReal) * (1 + Ideal.tanh ((cG : EReal) * (x + (kG : EReal) * (x * x * x)))))

/-- The kernel's `silu (2 h)`. -/
def siluH (h : EReal) : EReal := h + h * Ideal.tanh h

/-- The reference's logistic function. -/
def sigm (x : EReal) : EReal := Ideal.div 1 (1 + Ideal.exp (-x))

/-- The kernel's `logistic (2 g) * (2 y)`. -/
def gateH (g y : EReal) : EReal := y + y * Ideal.tanh g

theorem geluH_half (p : ℝ) : geluH ((p / 2 : ℝ) : EReal) = gelu (p : EReal) := by
  unfold geluH gelu
  simp only [← EReal.coe_mul, ← EReal.coe_add, Ideal.tanh_coe, ← EReal.coe_one]
  rw [show p / 2 * (2 * cG + 8 * cG * kG * (p / 2 * (p / 2))) = cG * (p + kG * (p * p * p)) by ring]
  congr 1; ring

theorem isR_gelu {x : EReal} : IsR x → IsR (gelu x)
  | ⟨p, hp⟩ => by
    rw [hp]; unfold gelu
    simp only [← EReal.coe_mul, ← EReal.coe_add, Ideal.tanh_coe, ← EReal.coe_one]
    exact isR_coe _

theorem sigm_coe (p : ℝ) : sigm (p : EReal) = ((1 / (1 + Real.exp (-p)) : ℝ) : EReal) := by
  unfold sigm
  have h : (1 + Real.exp (-p)) ≠ 0 := (add_pos one_pos (Real.exp_pos _)).ne'
  rw [← EReal.coe_neg, Ideal.exp_coe, ← EReal.coe_one, ← EReal.coe_add, Ideal.div_coe h, ← EReal.coe_mul, one_mul]

theorem half_tanh (p : ℝ) : 1 + Real.tanh (p / 2) = 2 * (1 / (1 + Real.exp (-p))) := by
  have h1 : Real.exp (-p) = Real.exp (-(p / 2)) * Real.exp (-(p / 2)) := by rw [← Real.exp_add]; ring_nf
  have h2 : Real.exp (p / 2) * Real.exp (-(p / 2)) = 1 := by rw [← Real.exp_add]; simp
  have ha := Real.exp_pos (p / 2)
  have hb := Real.exp_pos (-(p / 2))
  rw [Real.tanh_eq_sinh_div_cosh, Real.sinh_eq, Real.cosh_eq, h1]
  generalize Real.exp (p / 2) = a at *
  generalize Real.exp (-(p / 2)) = b at *
  have h3 : 1 + b * b = b * (a + b) := by linear_combination -h2
  rw [h3]
  field_simp
  linear_combination 2 * h2

theorem siluH_half (p : ℝ) : siluH ((p / 2 : ℝ) : EReal) = (p : EReal) * sigm (p : EReal) := by
  unfold siluH
  rw [sigm_coe, Ideal.tanh_coe, ← EReal.coe_mul, ← EReal.coe_add, ← EReal.coe_mul]
  congr 1
  linear_combination (p / 2) * half_tanh p

theorem gateH_half (p y : ℝ) : gateH ((p / 2 : ℝ) : EReal) ((y / 2 : ℝ) : EReal) = sigm (p : EReal) * (y : EReal) := by
  unfold gateH
  rw [sigm_coe, Ideal.tanh_coe, ← EReal.coe_mul, ← EReal.coe_add, ← EReal.coe_mul]
  congr 1
  linear_combination (y / 2) * half_tanh p

theorem isR_sigm {x : EReal} : IsR x → IsR (sigm x)
  | ⟨p, hp⟩ => by rw [hp, sigm_coe]; exact isR_coe _

/-! ## Rows -/

/-- A row times a matrix, at one column. -/
def dot {m n : ℕ} (x : Fin m → EReal) (w : Fin m → Fin n → EReal) (j : Fin n) : EReal := ∑ k, x k * w k j

theorem isR_dot {m n : ℕ} {x : Fin m → EReal} {w : Fin m → Fin n → EReal} (hx : ∀ k, IsR (x k))
    (hw : ∀ k j, IsR (w k j)) (j : Fin n) : IsR (dot x w j) := IsR.sum fun k => (hx k).mul (hw k j)

/-- A row times a matrix whose column has been halved is half of the row times the matrix. -/
theorem dot_half {m n n' : ℕ} {x : Fin m → EReal} {w : Fin m → Fin n → EReal} {w' : Fin m → Fin n' → EReal} {j : Fin n}
    {j' : Fin n'} (hx : ∀ k, IsR (x k)) (hw : ∀ k j, IsR (w k j)) (h : ∀ k, w' k j' = ((1 / 2 : ℝ) : EReal) * w k j) :
    ∃ p : ℝ, dot x w j = (p : EReal) ∧ dot x w' j' = ((p / 2 : ℝ) : EReal) := by
  choose xr hxr using hx
  choose wr hwr using hw
  refine ⟨∑ k, xr k * wr k j, ?_, ?_⟩
  · simp only [dot, hxr, hwr, coe_sum, EReal.coe_mul]
  · simp only [dot, h, hxr, hwr]
    rw [Finset.sum_div, coe_sum]
    refine Finset.sum_congr rfl fun k _ => ?_
    rw [← EReal.coe_mul, ← EReal.coe_mul]
    congr 1; ring

/-- The mean of a row of 1024. -/
def mean (x : Fin 1024 → EReal) : EReal := Ideal.div (∑ k, x k) ((1024 : ℝ) : EReal)

theorem isR_mean {x : Fin 1024 → EReal} (h : ∀ k, IsR (x k)) : IsR (mean x) := by
  unfold mean
  rw [Ideal.div_coe (by norm_num)]
  exact (IsR.sum h).mul (isR_coe _)

/-- A row scaled by the reciprocal root of its mean square, times a gain. -/
def rms (x g : Fin 1024 → EReal) (d : Fin 1024) : EReal :=
  x d * Ideal.rsqrt (mean (fun k => x k * x k) + (epsR : EReal)) * g d

/-- A row less its mean, scaled by the reciprocal root of its variance. -/
def lnCore (x : Fin 1024 → EReal) (a : Fin 1024) : EReal :=
  (x a - mean x) * Ideal.rsqrt (mean (fun k => (x k - mean x) * (x k - mean x)) + (epsR : EReal))

theorem isR_rsqrt_meanSq {x : Fin 1024 → EReal} (h : ∀ k, IsR (x k)) :
    IsR (Ideal.rsqrt (mean (fun k => x k * x k) + (epsR : EReal))) := by
  choose r hr using h
  have h0 : 0 < (∑ k, r k * r k) * (1 / 1024) + epsR :=
    add_pos_of_nonneg_of_pos (mul_nonneg (Finset.sum_nonneg fun k _ => mul_self_nonneg _) (by norm_num)) (by norm_num)
  have e : mean (fun k => x k * x k) + (epsR : EReal) = (((∑ k, r k * r k) * (1 / 1024) + epsR : ℝ) : EReal) := by
    unfold mean
    rw [Ideal.div_coe (by norm_num)]
    simp only [hr, EReal.coe_add, EReal.coe_mul, coe_sum]
  rw [e, Ideal.rsqrt_coe, if_neg h0.le.not_gt, if_neg h0.ne']
  exact isR_coe _

theorem isR_lnCore {x : Fin 1024 → EReal} (h : ∀ k, IsR (x k)) (a : Fin 1024) : IsR (lnCore x a) :=
  ((h a).sub (isR_mean h)).mul (isR_rsqrt_meanSq fun k => (h k).sub (isR_mean h))

theorem le_sum_of_nonneg {n : ℕ} (f : Fin n → EReal) (h : ∀ k, 0 ≤ f k) (k : Fin n) : f k ≤ ∑ j, f j :=
  Finset.single_le_sum (fun j _ => h j) (Finset.mem_univ k)

theorem mul_self_nonneg' (x : EReal) : 0 ≤ x * x := by
  induction x using EReal.rec with
  | bot => simp
  | top => simp
  | coe r => rw [← EReal.coe_mul]; exact EReal.coe_nonneg.2 (mul_self_nonneg r)

/-- The normed row is real whatever the row: an infinite entry makes the reciprocal root zero. -/
theorem isR_rms (x : Fin 1024 → EReal) {g : Fin 1024 → EReal} (hg : ∀ k, IsR (g k)) (d : Fin 1024) : IsR (rms x g d) := by
  unfold rms
  by_cases h : ∀ k, IsR (x k)
  · exact ((h d).mul (isR_rsqrt_meanSq h)).mul (hg d)
  · obtain ⟨k, hk⟩ := not_forall.1 h
    have ht : x k * x k = ⊤ := by
      induction hx : x k using EReal.rec with
      | bot => simp
      | top => simp
      | coe r => exact absurd ⟨r, hx⟩ hk
    have hs : ∑ j, x j * x j = ⊤ := top_le_iff.1 (ht ▸ le_sum_of_nonneg (fun j => x j * x j) (fun j => mul_self_nonneg' _) k)
    have hm : mean (fun k => x k * x k) + (epsR : EReal) = ⊤ := by
      unfold mean
      rw [Ideal.div_coe (by norm_num), hs, EReal.top_mul_coe_of_pos (by norm_num), EReal.top_add_coe]
    rw [hm, show Ideal.rsqrt ⊤ = 0 from rfl, mul_zero, zero_mul]
    exact ⟨0, rfl⟩

/-! ## One chunk: the kernel's rows and the reference's -/

/-- Column `off + j` of the input projection. -/
def col (off : ℕ) {n : ℕ} (h : off + n ≤ 6144) (j : Fin n) : Fin 6144 := ⟨off + j, by have := j.isLt; omega⟩

/-- The head that a channel belongs to. -/
def head (a : Fin 1024) : Fin 8 := ⟨a / 128, by have := a.isLt; omega⟩

/-- Column `off + e` of the gated linear unit's product. -/
def pcol (off : ℕ) (h : off + 512 ≤ 1024) (e : Fin 512) : Fin 1024 := ⟨off + e, by have := e.isLt; omega⟩

section Kernel

variable (xn : Fin 128 → Fin 1024 → EReal) (y : Fin 128 → Fin 512 → EReal) (w : Fin 1024 → Fin 6144 → EReal)
  (lg : Fin 1024 → EReal) (ws : Fin 8 → Fin 128 → Fin 128 → EReal) (sb : Fin 128 → Fin 1024 → EReal)
  (wa : Fin 1024 → Fin 1024 → EReal) (wg wb : Fin 512 → Fin 1024 → EReal)

def kV (t : Fin 128) (a : Fin 1024) : EReal := geluH (dot (xn t) w (col 1024 (by decide) a))
def kU (t : Fin 128) (a : Fin 1024) : EReal := geluH (dot (xn t) w (col 0 (by decide) a))
def kZa (t : Fin 128) (a : Fin 1024) : EReal := siluH (dot (xn t) w (col 2048 (by decide) a))
def kVn (t : Fin 128) (a : Fin 1024) : EReal := lnCore (kV xn w t) a
/-- The position mixing of the normed rows `vn`, with the gain and the folded bias. -/
def kMixOf (vn : Fin 128 → Fin 1024 → EReal) (t : Fin 128) (a : Fin 1024) : EReal :=
  (∑ s, ws (head a) t s * vn s a) * lg a + sb t a
def kMix (t : Fin 128) (a : Fin 1024) : EReal := kMixOf lg ws sb (kVn xn w) t a
def kYa (t : Fin 128) (d : Fin 1024) : EReal :=
  dot (fun a => kU xn w t a * kMix xn w lg ws sb t a * kZa xn w t a) wa d
def kPq (t : Fin 128) (j : Fin 1024) : EReal := dot (fun e => geluH (y t e)) wg j
def kZb (t : Fin 128) (e : Fin 512) : EReal := siluH (dot (xn t) w (col 3584 (by decide) e))
def kYb (t : Fin 128) (d : Fin 1024) : EReal :=
  dot (fun e => gateH (kPq y wg t (pcol 512 (by decide) e)) (kPq y wg t (pcol 0 (by decide) e)) * kZb xn w t e) wb d
def kMerged (t : Fin 128) (d : Fin 1024) : EReal :=
  gateH (dot (xn t) w (col 4096 (by decide) d)) (kYa xn w lg ws sb wa t d)
    + gateH (dot (xn t) w (col 5120 (by decide) d)) (kYb xn y w wg wb t d)

end Kernel

section Reference

variable (xn : Fin 128 → Fin 1024 → EReal) (y : Fin 128 → Fin 512 → EReal) (w : Fin 1024 → Fin 6144 → EReal)
  (lg lb : Fin 1024 → EReal) (ws : Fin 8 → Fin 128 → Fin 128 → EReal) (bs : Fin 8 → Fin 128 → EReal)
  (wa : Fin 1024 → Fin 1024 → EReal) (wg wb : Fin 512 → Fin 1024 → EReal)

def rV (t : Fin 128) (a : Fin 1024) : EReal := gelu (dot (xn t) w (col 1024 (by decide) a))
def rU (t : Fin 128) (a : Fin 1024) : EReal := gelu (dot (xn t) w (col 0 (by decide) a))
def rZa (t : Fin 128) (a : Fin 1024) : EReal :=
  dot (xn t) w (col 2048 (by decide) a) * sigm (dot (xn t) w (col 2048 (by decide) a))
def rVn (t : Fin 128) (a : Fin 1024) : EReal := lnCore (rV xn w t) a * lg a + lb a
def rMix (t : Fin 128) (a : Fin 1024) : EReal :=
  (∑ s, rVn xn w lg lb s a * ws (head a) t s) + bs (head a) t
def rYa (t : Fin 128) (d : Fin 1024) : EReal :=
  dot (fun a => rU xn w t a * rMix xn w lg lb ws bs t a * rZa xn w t a) wa d
def rPq (t : Fin 128) (j : Fin 1024) : EReal := dot (fun e => gelu (((2 : ℝ) : EReal) * y t e)) wg j
def rZb (t : Fin 128) (e : Fin 512) : EReal :=
  dot (xn t) w (col 3584 (by decide) e) * sigm (dot (xn t) w (col 3584 (by decide) e))
def rYb (t : Fin 128) (d : Fin 1024) : EReal :=
  dot (fun e => rPq y wg t (pcol 0 (by decide) e) * sigm (rPq y wg t (pcol 512 (by decide) e)) * rZb xn w t e) wb d
def rMerged (t : Fin 128) (d : Fin 1024) : EReal :=
  sigm (dot (xn t) w (col 4096 (by decide) d)) * rYa xn w lg lb ws bs wa t d
    + sigm (dot (xn t) w (col 5120 (by decide) d)) * rYb xn y w wg wb t d

end Reference

/-- The row of the result from the row of the input and the merged mixers. -/
def out (x : Fin 1024 → EReal) (merged : Fin 1024 → EReal) (wo : Fin 1024 → Fin 1024 → EReal) (fg : Fin 1024 → EReal)
    (d : Fin 1024) : EReal := rms (fun e => x e + dot merged wo e) fg d

section Merge

variable {xn : Fin 128 → Fin 1024 → EReal} {y : Fin 128 → Fin 512 → EReal} {w w' : Fin 1024 → Fin 6144 → EReal}
  {lg lb : Fin 1024 → EReal} {ws : Fin 8 → Fin 128 → Fin 128 → EReal} {bs : Fin 8 → Fin 128 → EReal}
  {sb : Fin 128 → Fin 1024 → EReal}
  {wa wa' : Fin 1024 → Fin 1024 → EReal} {wg wg' wb wb' : Fin 512 → Fin 1024 → EReal}

theorem kMix_eq (hvn : ∀ t a, IsR (lnCore (rV xn w t) a)) (hV : kV xn w' = rV xn w) (hlg : ∀ a, IsR (lg a))
    (hlb : ∀ a, IsR (lb a)) (hws : ∀ h t s, IsR (ws h t s)) (hbs : ∀ h t, IsR (bs h t))
    (hsb : ∀ t a, sb t a = bs (head a) t + (∑ s, ws (head a) t s) * lb a) (t : Fin 128) (a : Fin 1024) :
    kMix xn w' lg ws sb t a = rMix xn w lg lb ws bs t a ∧ IsR (rMix xn w lg lb ws bs t a) := by
  unfold kMix kMixOf rMix kVn rVn
  rw [hV, hsb]
  choose v hv using hvn
  choose l hl using hlg
  choose l' hl' using hlb
  choose s hs using hws
  choose b hb using hbs
  simp only [hv, hl, hl', hs, hb, ← EReal.coe_mul, ← EReal.coe_add, ← coe_sum]
  refine ⟨?_, isR_coe _⟩
  congr 1
  simp only [add_mul, Finset.sum_add_distrib, Finset.sum_mul, Finset.mul_sum, mul_comm, mul_left_comm, mul_assoc]
  ring

theorem merged_eq (hxn : ∀ t d, IsR (xn t d)) (hy : ∀ t e, IsR (y t e)) (hw : ∀ d c, IsR (w d c))
    (hlg : ∀ a, IsR (lg a)) (hlb : ∀ a, IsR (lb a)) (hws : ∀ h t s, IsR (ws h t s)) (hbs : ∀ h t, IsR (bs h t))
    (hwa : ∀ a d, IsR (wa a d)) (hwg : ∀ e j, IsR (wg e j)) (hwb : ∀ e d, IsR (wb e d))
    (hw' : ∀ d (c : Fin 6144), (c : ℕ) < 3072 ∨ 3584 ≤ (c : ℕ) → w' d c = ((1 / 2 : ℝ) : EReal) * w d c)
    (hwa' : ∀ a d, wa' a d = ((1 / 2 : ℝ) : EReal) * wa a d) (hwg' : ∀ e j, wg' e j = ((1 / 2 : ℝ) : EReal) * wg e j)
    (hwb' : ∀ e d, wb' e d = ((1 / 2 : ℝ) : EReal) * wb e d)
    (hsb : ∀ t a, sb t a = bs (head a) t + (∑ s, ws (head a) t s) * lb a) :
    kMerged xn y w' lg ws sb wa' wg' wb' = rMerged xn y w lg lb ws bs wa wg wb := by
  have hp : ∀ t (c : Fin 6144), (c : ℕ) < 3072 ∨ 3584 ≤ (c : ℕ) →
      ∃ p : ℝ, dot (xn t) w c = (p : EReal) ∧ dot (xn t) w' c = ((p / 2 : ℝ) : EReal) :=
    fun t c hc => dot_half (hxn t) hw fun k => hw' k c hc
  have hP : ∀ t c, IsR (dot (xn t) w c) := fun t c => isR_dot (hxn t) hw c
  have hV : kV xn w' = rV xn w := by
    funext t a
    obtain ⟨p, h1, h2⟩ := hp t (col 1024 (by decide) a) (.inl (by have := a.isLt; simp only [col]; omega))
    unfold kV rV; rw [h1, h2, geluH_half]
  have hU : kU xn w' = rU xn w := by
    funext t a
    obtain ⟨p, h1, h2⟩ := hp t (col 0 (by decide) a) (.inl (by have := a.isLt; simp only [col]; omega))
    unfold kU rU; rw [h1, h2, geluH_half]
  have hZa : kZa xn w' = rZa xn w := by
    funext t a
    obtain ⟨p, h1, h2⟩ := hp t (col 2048 (by decide) a) (.inl (by have := a.isLt; simp only [col]; omega))
    unfold kZa rZa; rw [h1, h2, siluH_half]
  have hZb : kZb xn w' = rZb xn w := by
    funext t e
    obtain ⟨p, h1, h2⟩ := hp t (col 3584 (by decide) e) (.inr (by simp only [col]; omega))
    unfold kZb rZb; rw [h1, h2, siluH_half]
  have hvn : ∀ t a, IsR (lnCore (rV xn w t) a) := fun t a => isR_lnCore (fun k => isR_gelu (hP t _)) a
  have hmix := fun t a => kMix_eq hvn hV hlg hlb hws hbs hsb t a
  have hMix : kMix xn w' lg ws sb = rMix xn w lg lb ws bs := funext fun t => funext fun a => (hmix t a).1
  have hZaR : ∀ t a, IsR (rZa xn w t a) := fun t a => (hP t _).mul (isR_sigm (hP t _))
  have hZbR : ∀ t a, IsR (rZb xn w t a) := fun t a => (hP t _).mul (isR_sigm (hP t _))
  have hG : ∀ t e, geluH (y t e) = gelu (((2 : ℝ) : EReal) * y t e) := fun t e => by
    obtain ⟨r, hr⟩ := hy t e
    rw [hr, ← EReal.coe_mul, ← geluH_half]; congr 2; ring
  have hGR : ∀ t e, IsR (gelu (((2 : ℝ) : EReal) * y t e)) := fun t e => isR_gelu ((isR_coe _).mul (hy t e))
  have hPq : ∀ t j, ∃ p : ℝ, rPq y wg t j = (p : EReal) ∧ kPq y wg' t j = ((p / 2 : ℝ) : EReal) := fun t j => by
    unfold rPq kPq; simp only [hG]
    exact dot_half (hGR t) hwg fun k => hwg' k j
  have hPqR : ∀ t j, IsR (rPq y wg t j) := fun t j => isR_dot (hGR t) hwg j
  have hGlu : ∀ t e, gateH (kPq y wg' t (pcol 512 (by decide) e)) (kPq y wg' t (pcol 0 (by decide) e))
      = rPq y wg t (pcol 0 (by decide) e) * sigm (rPq y wg t (pcol 512 (by decide) e)) := fun t e => by
    obtain ⟨q, h1, h2⟩ := hPq t (pcol 512 (by decide) e)
    obtain ⟨p, h3, h4⟩ := hPq t (pcol 0 (by decide) e)
    rw [h1, h2, h3, h4, gateH_half, mul_comm]
  have hYa : ∀ t d, ∃ p : ℝ, rYa xn w lg lb ws bs wa t d = (p : EReal)
      ∧ kYa xn w' lg ws sb wa' t d = ((p / 2 : ℝ) : EReal) := fun t d => by
    unfold rYa kYa; rw [hU, hZa, hMix]
    exact dot_half (fun a => ((isR_gelu (hP t _)).mul (hmix t a).2).mul (hZaR t a)) hwa fun k => hwa' k d
  have hYb : ∀ t d, ∃ p : ℝ, rYb xn y w wg wb t d = (p : EReal)
      ∧ kYb xn y w' wg' wb' t d = ((p / 2 : ℝ) : EReal) := fun t d => by
    unfold rYb kYb; simp only [hZb, hGlu]
    exact dot_half (fun e => ((hPqR t _).mul (isR_sigm (hPqR t _))).mul (hZbR t e)) hwb fun k => hwb' k d
  funext t d
  obtain ⟨ga, h1, h2⟩ := hp t (col 4096 (by decide) d) (.inr (by simp only [col]; omega))
  obtain ⟨gb, h3, h4⟩ := hp t (col 5120 (by decide) d) (.inr (by simp only [col]; omega))
  obtain ⟨ya, h5, h6⟩ := hYa t d
  obtain ⟨yb, h7, h8⟩ := hYb t d
  unfold kMerged rMerged
  rw [h1, h2, h3, h4, h5, h6, h7, h8, gateH_half, gateH_half]

end Merge

end Cert.Chunk

end
-- ==== Proof.Args.lean ====
/- The arguments of the layer read as rows: chunk `c` of batch `b`, position `t` in the chunk; and the single-precision
   literals of the two programs as real numbers. -/
module

public import proofs.«01_k».proof.Proof.Chunk
public import Idealize.ShloMosaic.Lib.Pointwise

@[expose] public section

noncomputable section

namespace Cert.Args

open Cert.Chunk Idealize.ShloMosaic

theorem lit_1024 : Ideal.ofBits .f32 0x44800000#32 = ((1024 : ℝ) : EReal) := by
  simp [Ideal.ofBits, Ideal.ieee, -EReal.coe_mul]; norm_num
theorem lit_eps : Ideal.ofBits .f32 0x358637BD#32 = (epsR : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_cG : Ideal.ofBits .f32 0x3F4C422A#32 = (cG : EReal) := by
  simp [Ideal.ofBits, Ideal.ieee, -EReal.coe_mul]; norm_num
theorem lit_kG : Ideal.ofBits .f32 0x3D372713#32 = (kG : EReal) := by
  simp [Ideal.ofBits, Ideal.ieee, -EReal.coe_mul]; norm_num
theorem lit_2cG : Ideal.ofBits .f32 0x3FCC422A#32 = ((2 * cG : ℝ) : EReal) := by
  simp [Ideal.ofBits, Ideal.ieee, -EReal.coe_mul]; norm_num

/-- An array of extended reals with three axes. -/
abbrev A3 (a b c : ℕ) := (⟨3, ![a, b, c]⟩ : Shape).Idx → EReal
/-- An array of extended reals with two axes. -/
abbrev A2 (a b : ℕ) := (⟨2, ![a, b]⟩ : Shape).Idx → EReal
/-- An array of extended reals with four axes. -/
abbrev A4 (a b c d : ℕ) := (⟨4, ![a, b, c, d]⟩ : Shape).Idx → EReal
/-- An array of extended reals with one axis. -/
abbrev A1 (a : ℕ) := (⟨1, ![a]⟩ : Shape).Idx → EReal

/-- Position `t` of chunk `c`. -/
def pos (c : Fin 16) (t : Fin 128) : Fin 2048 := ⟨c * 128 + t, by have := c.isLt; have := t.isLt; omega⟩

theorem pos_split (s : Fin 2048) : pos ⟨s / 128, by have := s.isLt; omega⟩ ⟨s % 128, Nat.mod_lt _ (by decide)⟩ = s :=
  Fin.ext (by simp only [pos]; omega)

/-- The rows of chunk `c` of batch `b`. -/
def xRow (x0 : A3 32 2048 1024) (b : Fin 32) (c : Fin 16) (t : Fin 128) (d : Fin 1024) : EReal := x0 (ix3 b (pos c t) d)

/-- Half the scan's output at position `t` of chunk `c` of batch `b`, in its own layout: by group of 16 channels; rows
    by chunk, batch and 16 positions; lanes by position and channel. -/
def yRow (x1 : A3 32 4096 256) (b : Fin 32) (c : Fin 16) (t : Fin 128) (e : Fin 512) : EReal :=
  x1 (ix3 ⟨e / 16, by have := e.isLt; omega⟩
    ⟨c * 256 + b * 8 + t / 16, by have := c.isLt; have := b.isLt; have := t.isLt; omega⟩
    ⟨t % 16 * 16 + e % 16, by omega⟩)

/-- A row argument. -/
def row (v : A2 1 1024) (d : Fin 1024) : EReal := v (ix2 0 d)
/-- A matrix argument. -/
def mat {m n : ℕ} (v : A3 1 m n) (k : Fin m) (j : Fin n) : EReal := v (ix3 0 k j)
/-- The position-mixing matrices, zero above the diagonal. -/
def causal (v : A4 1 8 128 128) (h : Fin 8) (t s : Fin 128) : EReal := if s ≤ t then v (ix4 0 h t s) else 0
/-- The position-mixing biases. -/
def bias (v : A3 1 8 128) (h : Fin 8) (t : Fin 128) : EReal := v (ix3 0 h t)

/-- The normed rows. -/
def xnRow (x0 : A3 32 2048 1024) (x2 : A2 1 1024) (b : Fin 32) (c : Fin 16) (t : Fin 128) : Fin 1024 → EReal :=
  rms (xRow x0 b c t) (row x2)

end Cert.Args

end
-- ==== Proof.BlockRow.lean ====
/- One block of the kernel, its projections: eight batches of one chunk, in two halves of four; the rows of a half are
   its batches' positions one batch after the other. -/
module

public import proofs.«01_k».proof.Proof.Gen.KernelIdeal.Value
public import proofs.«01_k».proof.Proof.Args

@[expose] public section

noncomputable section

namespace Cert.Block

open Cert.KernelIdeal Cert.KernelIdeal.Gen Cert.Chunk Cert.Args Idealize.ShloMosaic Idealize.ShloMosaic.TcCoe
  Idealize.ShloMosaic.Tactic

/-- The batch, of the half's four, that a row belongs to. -/
def rb (r : Fin 512) : Fin 4 := ⟨r / 128, by have := r.isLt; omega⟩
/-- The position in the chunk that a row stands for. -/
def rt (r : Fin 512) : Fin 128 := ⟨r % 128, Nat.mod_lt _ (by decide)⟩

/-- The normed rows of batch `q` of half `s`. -/
def xnB (x0 : A3 8 128 1024) (x2 : A2 1 1024) (s : Fin 2) (q : Fin 4) (t : Fin 128) : Fin 1024 → EReal :=
  rms (fun d => x0 (ix3 ⟨4 * s + q, by have := s.isLt; have := q.isLt; omega⟩ t d)) (row x2)

/-- A matrix argument of two axes. -/
def mat2 {a b : ℕ} (v : A2 a b) (k : Fin a) (j : Fin b) : EReal := v (ix2 k j)

variable (c : Dev nD)
  (arg2 : Memref sig .tc .vmem S8x128x1024 .f32) (harg2 : arg2.IsWhole)
  (arg4 : Memref sig .tc .vmem S1x1024 .f32) (harg4 : arg4.IsWhole)
  (arg5 : Memref sig .tc .vmem S1024x6144 .bf16) (harg5 : arg5.IsWhole)
  (x0 : Vec Ideal S8x128x1024 .f32) (x2 : Vec Ideal S1x1024 .f32) (x3 : Vec Ideal S1024x6144 .bf16)
  (r : Fin 512)

theorem gelu_cubic : Named.named (F := Ideal) (φ := .f32) κ "gelu_cubic" 0x3E922279#32 = ((8 * cG * kG : ℝ) : EReal) := by
  rw [IdealRules.named_const.ideal_named_scalar (φ := .f32) _ _ _ ((80338380498831 / 281474976710656 : ℝ) : EReal) rfl]
  unfold cG kG
  norm_num

theorem v18_apply (d : Fin 1024) : kernelRun0_A.sl.v18 (F := Ideal) c arg2 harg2 arg4 harg4 x0 x2 (ix2 r d)
    = xnB x0 x2 0 (rb r) (rt r) d := by
  sl_unfold_run_names
  simp only [View.readAt_eq_ld, harg2.read_unread, harg4.read_unread]
  pointwise []
  simp only [lit_1024, lit_eps]
  unfold xnB
  simp only [Fin.val_zero, Nat.mul_zero, Nat.zero_add]
  rfl

theorem v1621_apply (d : Fin 1024) : kernelRun0_A.sl.v1621 (F := Ideal) c arg2 harg2 arg4 harg4 x0 x2 (ix2 r d)
    = xnB x0 x2 1 (rb r) (rt r) d := by
  sl_unfold_run_names
  simp only [View.readAt_eq_ld, harg2.read_unread, harg4.read_unread]
  pointwise [k0_pay385, k0_pay386]
  simp only [lit_1024, lit_eps]
  rfl

theorem r_4_apply (a : Fin 1024) : kernelRun0_A.sl.r_4 (F := Ideal) c arg2 harg2 arg4 harg4 arg5 harg5 x0 x2 x3 (ix2 r a)
    = kV (xnB x0 x2 0 (rb r)) (mat2 x3) (rt r) a := by
  unfold kernelRun0_A.sl.r_4
  simp only [View.readAt_eq_ld, harg5.read_unread]
  pointwise [k0_pay384]
  simp only [v18_apply, lit_2cG, gelu_cubic]
  unfold kV geluH
  simp only [col, Nat.zero_add]
  rfl

theorem r_9_apply (a : Fin 1024) : kernelRun0_A.sl.r_9 (F := Ideal) c arg2 harg2 arg4 harg4 arg5 harg5 x0 x2 x3 (ix2 r a)
    = kV (xnB x0 x2 1 (rb r)) (mat2 x3) (rt r) a := by
  unfold kernelRun0_A.sl.r_9
  simp only [View.readAt_eq_ld, harg5.read_unread]
  pointwise [k0_pay763]
  simp only [v1621_apply, lit_2cG, gelu_cubic]
  unfold kV geluH
  simp only [col, Nat.zero_add]
  rfl

theorem v3805_apply (a : Fin 1024) : kernelRun0_A.sl.v3805 (F := Ideal) c arg2 harg2 arg4 harg4 arg5 harg5 x0 x2 x3 (ix2 r a)
    = kU (xnB x0 x2 0 (rb r)) (mat2 x3) (rt r) a := by
  unfold kernelRun0_A.sl.v3805 kernelRun0_A.sl.v3804 kernelRun0_A.sl.v3803 kernelRun0_A.sl.v3802 kernelRun0_A.sl.v3801 kernelRun0_A.sl.v3800 kernelRun0_A.sl.v3799 kernelRun0_A.sl.v3798 kernelRun0_A.sl.cst_2331 kernelRun0_A.sl.cst_2332 kernelRun0_A.sl.r_18 kernelRun0_A.sl.r_19
  simp only [View.readAt_eq_ld, harg5.read_unread]
  pointwise [k0_pay816, k0_pay817]
  simp only [v18_apply, lit_2cG, gelu_cubic]
  unfold kU geluH
  simp only [col, Nat.zero_add]
  rfl

theorem r_33_apply (a : Fin 1024) : kernelRun0_A.sl.r_33 (F := Ideal) c arg2 harg2 arg4 harg4 arg5 harg5 x0 x2 x3 (ix2 r a)
    = kU (xnB x0 x2 1 (rb r)) (mat2 x3) (rt r) a := by
  unfold kernelRun0_A.sl.r_33
  simp only [View.readAt_eq_ld, harg5.read_unread]
  pointwise [k0_pay875]
  simp only [v1621_apply, lit_2cG, gelu_cubic]
  unfold kU geluH
  simp only [col, Nat.zero_add]
  rfl

theorem v3811_apply (a : Fin 1024) : kernelRun0_A.sl.v3811 (F := Ideal) c arg2 harg2 arg4 harg4 arg5 harg5 x0 x2 x3 (ix2 r a)
    = kZa (xnB x0 x2 0 (rb r)) (mat2 x3) (rt r) a := by
  unfold kernelRun0_A.sl.v3811 kernelRun0_A.sl.v3810 kernelRun0_A.sl.v3809 kernelRun0_A.sl.v3808 kernelRun0_A.sl.v3807 kernelRun0_A.sl.cst_2334
  simp only [View.readAt_eq_ld, harg5.read_unread]
  pointwise []
  simp only [v18_apply]
  rfl

theorem r_34_apply (a : Fin 1024) : kernelRun0_A.sl.r_34 (F := Ideal) c arg2 harg2 arg4 harg4 arg5 harg5 x0 x2 x3 (ix2 r a)
    = kZa (xnB x0 x2 1 (rb r)) (mat2 x3) (rt r) a := by
  unfold kernelRun0_A.sl.r_34
  simp only [View.readAt_eq_ld, harg5.read_unread]
  pointwise [k0_pay876]
  simp only [v1621_apply]
  rfl

theorem v1641_apply (a : Fin 1024) : kernelRun0_A.sl.v1641 (F := Ideal) c arg2 harg2 arg4 harg4 arg5 harg5 x0 x2 x3 (ix3 0 r a)
    = kVn (xnB x0 x2 0 (rb r)) (mat2 x3) (rt r) a := by
  unfold kernelRun0_A.sl.v1641 kernelRun0_A.sl.v1638 kernelRun0_A.sl.v1637 kernelRun0_A.sl.v1636 kernelRun0_A.sl.v1635 kernelRun0_A.sl.v1634 kernelRun0_A.sl.v11 kernelRun0_A.sl.v1632 kernelRun0_A.sl.v1630 kernelRun0_A.sl.v1629 kernelRun0_A.sl.v1628 kernelRun0_A.sl.v1627 kernelRun0_A.sl.v1626 kernelRun0_A.sl.v1625 kernelRun0_A.sl.v9 kernelRun0_A.sl.v1623 kernelRun0_A.sl.v1622 kernelRun0_A.sl.cst_6 kernelRun0_A.sl.cst_7
  pointwise []
  simp only [r_4_apply, lit_1024, lit_eps]
  rfl

theorem vn1_apply (a : Fin 1024) : k0_pay815 (kernelRun0_A.sl.r_9 (F := Ideal) c arg2 harg2 arg4 harg4 arg5 harg5 x0 x2 x3) (ix3 0 r a)
    = kVn (xnB x0 x2 1 (rb r)) (mat2 x3) (rt r) a := by
  pointwise [k0_pay815]
  simp only [r_9_apply, lit_1024, lit_eps]
  rfl

end Cert.Block
-- ==== Proof.ScanTile.lean ====
/- The block's scan output moved from "lane holds position and channel" to "lane holds channels of eight groups": eight
   tiles exchanged by three rounds of lane rotations and selections. -/
module

public import proofs.«01_k».proof.Proof.BlockRow
public import Idealize.ShloMosaic.Lib.Pipeline.ReadBack

@[expose] public section

namespace Cert.Block

open Cert.KernelIdeal Cert.KernelIdeal.Gen Cert.Chunk Cert.Args Idealize.ShloMosaic Idealize.ShloMosaic.TcCoe
  Idealize.ShloMosaic.Tactic

/-- The three lane masks: bit 2, bit 1 and bit 0 of the lane's group of sixteen is clear. -/
theorem v74_apply (r : Fin 32) (l : Fin 128) : kernelRun0_A.sl.v74 (ix2 r l) = if l.val / 64 % 2 = 0 then 1#1 else 0#1 := by
  sl_unfold_run_names
  pointwise []
  revert l
  decide +kernel
theorem v110_apply (r : Fin 32) (l : Fin 128) : kernelRun0_A.sl.v110 (ix2 r l) = if l.val / 32 % 2 = 0 then 1#1 else 0#1 := by
  sl_unfold_run_names
  pointwise []
  revert l
  decide +kernel
theorem v146_apply (r : Fin 32) (l : Fin 128) : kernelRun0_A.sl.v146 (ix2 r l) = if l.val / 16 % 2 = 0 then 1#1 else 0#1 := by
  sl_unfold_run_names
  pointwise []
  revert l
  decide +kernel

/-- A tile of 32 rows and 128 lanes. -/
abbrev Tile := FVec Ideal S32x128 .f32

/-- First round, tiles `i` and `i + 4`. -/
noncomputable def lo4 (a : ℕ → Tile) (i : ℕ) : Tile := select kernelRun0_A.sl.v74 (a i) (dynamicRotate 1 (64#32) none (a (i + 4)))
noncomputable def hi4 (a : ℕ → Tile) (i : ℕ) : Tile := select kernelRun0_A.sl.v74 (dynamicRotate 1 (64#32) none (a i)) (a (i + 4))
/-- Second round, tiles `i` and `i + 2`. -/
noncomputable def lo2 (a : ℕ → Tile) (i : ℕ) : Tile := select kernelRun0_A.sl.v110 (a i) (dynamicRotate 1 (32#32) none (a (i + 2)))
noncomputable def hi2 (a : ℕ → Tile) (i : ℕ) : Tile := select kernelRun0_A.sl.v110 (dynamicRotate 1 (96#32) none (a i)) (a (i + 2))
/-- Third round, tiles `i` and `i + 1`. -/
noncomputable def lo1 (a : ℕ → Tile) : Tile := select kernelRun0_A.sl.v146 (a 0) (dynamicRotate 1 (16#32) none (a 1))
noncomputable def hi1 (a : ℕ → Tile) : Tile := select kernelRun0_A.sl.v146 (dynamicRotate 1 (112#32) none (a 0)) (a 1)

/-- The eight tiles the three rounds leave. -/
noncomputable def exchange (a : ℕ → Tile) : ℕ → Tile
  | 0 => lo1 (lo2 (lo4 a))
  | 1 => hi1 (lo2 (lo4 a))
  | 2 => lo1 (hi2 (lo4 a))
  | 3 => hi1 (hi2 (lo4 a))
  | 4 => lo1 (lo2 (hi4 a))
  | 5 => hi1 (lo2 (hi4 a))
  | 6 => lo1 (hi2 (hi4 a))
  | _ => hi1 (hi2 (hi4 a))

theorem select_if {α : Type} (p : Prop) [Decidable p] (x y : α) :
    Scalar.select (if p then 1#1 else 0#1) x y = if p then x else y := by split <;> rfl

variable (a : ℕ → Tile) (r : Fin 32) (l : Fin 128)

/-- The value of tile `i` at lane `x`, any natural numbers. -/
theorem tile_congr {i j x y : ℕ} (hx : x < 128) (hy : y < 128) (hi : i = j) (h : x = y) :
    a i (ix2 r ⟨x, hx⟩) = a j (ix2 r ⟨y, hy⟩) := by subst hi h; rfl

theorem lo4_apply (i : ℕ) : lo4 a i (ix2 r l) = if l.val / 64 % 2 = 0 then a i (ix2 r l)
    else a (i + 4) (ix2 r ⟨(l + 128 - 64) % 128, Nat.mod_lt _ (by decide)⟩) := by
  pointwise [lo4]
  rw [v74_apply, select_if]
theorem hi4_apply (i : ℕ) : hi4 a i (ix2 r l) = if l.val / 64 % 2 = 0 then
    a i (ix2 r ⟨(l + 128 - 64) % 128, Nat.mod_lt _ (by decide)⟩) else a (i + 4) (ix2 r l) := by
  pointwise [hi4]
  rw [v74_apply, select_if]
theorem lo2_apply (i : ℕ) : lo2 a i (ix2 r l) = if l.val / 32 % 2 = 0 then a i (ix2 r l)
    else a (i + 2) (ix2 r ⟨(l + 128 - 32) % 128, Nat.mod_lt _ (by decide)⟩) := by
  pointwise [lo2]
  rw [v110_apply, select_if]
theorem hi2_apply (i : ℕ) : hi2 a i (ix2 r l) = if l.val / 32 % 2 = 0 then
    a i (ix2 r ⟨(l + 128 - 96) % 128, Nat.mod_lt _ (by decide)⟩) else a (i + 2) (ix2 r l) := by
  pointwise [hi2]
  rw [v110_apply, select_if]
theorem lo1_apply : lo1 a (ix2 r l) = if l.val / 16 % 2 = 0 then a 0 (ix2 r l)
    else a 1 (ix2 r ⟨(l + 128 - 16) % 128, Nat.mod_lt _ (by decide)⟩) := by
  pointwise [lo1]
  rw [v146_apply, select_if]
theorem hi1_apply : hi1 a (ix2 r l) = if l.val / 16 % 2 = 0 then
    a 0 (ix2 r ⟨(l + 128 - 112) % 128, Nat.mod_lt _ (by decide)⟩) else a 1 (ix2 r l) := by
  pointwise [hi1]
  rw [v146_apply, select_if]

/-- Lane `16 g + h` of the exchanged tile `k` is lane `16 k + h` of tile `g`. -/
theorem exchange_apply (k : Fin 8) : exchange a k (ix2 r l) = a (l / 16) (ix2 r ⟨16 * k + l % 16, by omega⟩) := by
  obtain ⟨l, hl⟩ := l
  fin_cases k <;>
    simp only [exchange, lo1_apply, hi1_apply, lo2_apply, hi2_apply, lo4_apply, hi4_apply] <;>
    split_ifs <;> apply tile_congr <;> first | omega | (simp only []; omega)

end Cert.Block
-- ==== Proof.ScanScratch.lean ====
/- The scratch that holds the block's scan output row by row, and the two matrices of 512 rows and 512 columns read
   from it. -/
module

public import proofs.«01_k».proof.Proof.ScanTile

@[expose] public section

namespace Cert.Block

open Cert.KernelIdeal Cert.KernelIdeal.Gen Cert.Chunk Cert.Args Idealize.ShloMosaic Idealize.ShloMosaic.TcCoe
  Idealize.ShloMosaic.Tactic

variable (c : Dev nD) (arg3 : Memref sig .tc .vmem S32x64x256 .bf16) (harg3 : arg3.IsWhole)
  (arg18 : Memref sig .tc .vmem S2x4x640x128 .f32) (x1 : Vec Ideal S32x64x256 .bf16)

/-- Thirty-two rows and 128 lanes of one group of the scan output. -/
noncomputable def tile (s : Fin 2) (j : Fin 4) (half : Fin 2) (i : Fin 8) : Tile :=
  extf (φ := .bf16) .f32 (shapeCast (s := S1x32x128) (α := Ideal .bf16) S32x128 (View.readAt (Elt Ideal) arg3.view
    (Rect.unit (s := S32x64x256) ![8 * j + i, 32 * s, 128 * half] S1x32x128.size
      (by intro a; fin_cases a <;> (simp [S1x32x128, S32x64x256] <;> omega))).toLoadRect (harg3.unread x1)) shapeCasts_S1x32x128_S32x128) (by decide)

theorem tile_apply (s : Fin 2) (j : Fin 4) (half : Fin 2) (i : Fin 8) (r : Fin 32) (l : Fin 128) :
    tile arg3 harg3 x1 s j half i (ix2 r l)
      = x1 (ix3 ⟨8 * j + i, by omega⟩ ⟨32 * s + r, by omega⟩ ⟨128 * half + l, by omega⟩) := by
  unfold tile
  simp only [View.readAt_eq_ld, harg3.read_unread]
  pointwise []

/-- The eight tiles one exchange starts from (tile 7 beyond the eighth). -/
noncomputable def tiles (s : Fin 2) (j : Fin 4) (half : Fin 2) : ℕ → Tile
  | 0 => tile arg3 harg3 x1 s j half 0
  | 1 => tile arg3 harg3 x1 s j half 1
  | 2 => tile arg3 harg3 x1 s j half 2
  | 3 => tile arg3 harg3 x1 s j half 3
  | 4 => tile arg3 harg3 x1 s j half 4
  | 5 => tile arg3 harg3 x1 s j half 5
  | 6 => tile arg3 harg3 x1 s j half 6
  | _ => tile arg3 harg3 x1 s j half 7

theorem tiles_val (s : Fin 2) (j : Fin 4) (half : Fin 2) (i : Fin 8) :
    tiles arg3 harg3 x1 s j half i = tile arg3 harg3 x1 s j half i := by
  fin_cases i <;> rfl

/-- The scratch's rectangle of part `s`, column block `j` and position `8 * half + k`: thirty-two rows from row
    `40 * (8 * half + k)`. -/
def scanInner (j : Fin 4) (half : Fin 2) (k : Fin 8) : Rect S4x640x128 :=
  Rect.unit (s := S4x640x128) ![j, 40 * (8 * half + k), 0] S1x32x128.size
      (by intro a; fin_cases a <;> (simp [S1x32x128, S4x640x128] <;> omega))
def scanRect (s : Fin 2) (j : Fin 4) (half : Fin 2) (k : Fin 8) : Rect S2x4x640x128 :=
  (Rect.unit (s := S2x4x640x128) ![s, 0, 0, 0] S1x4x640x128.size
      (by intro a; fin_cases a <;> (simp [S1x4x640x128, S2x4x640x128] <;> omega))).within
    ((scanInner j half k).consLift ![1, 4, 640, 128] rfl (by intro a; fin_cases a <;> rfl)) (fun _ => rfl)

/-- Its piece: the exchanged tile. -/
noncomputable def scanPiece (s : Fin 2) (j : Fin 4) (half : Fin 2) (k : Fin 8) : View.Piece (Elt Ideal) S2x4x640x128 .f32 :=
  ⟨scanRect s j half k, Rect.payAlong (r := scanInner j half k)
    (Rect.numel_consLift (scanInner j half k) ![1, 4, 640, 128] rfl (by intro a; fin_cases a <;> rfl))
    (shapeCast S1x32x128 (exchange (tiles arg3 harg3 x1 s j half) k) shapeCasts_S32x128_S1x32x128)⟩

theorem scanRect_emb (s : Fin 2) (j : Fin 4) (half : Fin 2) (k : Fin 8) (x : (scanRect s j half k).shape.Idx) (a : Fin 4) :
    ((scanRect s j half k).emb x a : ℕ) = ![s.val, j.val, 40 * (8 * half + k), 0] a + (x a).val := by
  rw [Rect.emb_apply]
  fin_cases a
  · show s.val + 0 + 1 * (x (0 : Fin 4)).val = s.val + (x (0 : Fin 4)).val
    omega
  · show 0 + j.val + 1 * (x (1 : Fin 4)).val = j.val + (x (1 : Fin 4)).val
    omega
  · show 0 + 40 * (8 * half.val + k.val) + 1 * (x (2 : Fin 4)).val = 40 * (8 * half.val + k.val) + (x (2 : Fin 4)).val
    omega
  · show 0 + 0 + 1 * (x (3 : Fin 4)).val = 0 + (x (3 : Fin 4)).val
    omega

theorem scanRect_size (s : Fin 2) (j : Fin 4) (half : Fin 2) (k : Fin 8) (a : Fin 4) :
    (scanRect s j half k).size a = ![1, 1, 32, 128] a := by
  fin_cases a <;> rfl
/-- What the scratch holds. -/
def scanAt (y : S2x4x640x128.Idx) : EReal :=
  x1 (ix3 ⟨8 * (y 1).val + (y 3).val / 16, by have := (y 1).isLt; have := (y 3).isLt; simp [S2x4x640x128] at *; omega⟩
    ⟨32 * (y 0).val + (y 2).val % 40 % 32, by have := (y 0).isLt; simp [S2x4x640x128] at *; omega⟩
    ⟨16 * ((y 2).val / 40) + (y 3).val % 16, by have := (y 2).isLt; simp [S2x4x640x128] at *; omega⟩)

theorem scanAt_of (y : S2x4x640x128.Idx) (s : Fin 2) (j : Fin 4) (half : Fin 2) (k : Fin 8) (r : Fin 32) (l : Fin 128)
    (h0 : (y 0).val = s) (h1 : (y 1).val = j) (h2 : (y 2).val = 40 * (8 * half + k) + r) (h3 : (y 3).val = l) :
    scanAt x1 y = x1 (ix3 ⟨8 * j + l / 16, by omega⟩ ⟨32 * s + r, by omega⟩ ⟨128 * half + (16 * k + l % 16), by omega⟩) := by
  unfold scanAt
  congr 1
  simp only [h0, h1, h2, h3]
  congr 2 <;> omega

theorem exchanged_apply (s : Fin 2) (j : Fin 4) (half : Fin 2) (k : Fin 8) (u : Fin 1) (r : Fin 32) (l : Fin 128) :
    shapeCast S1x32x128 (exchange (tiles arg3 harg3 x1 s j half) k) shapeCasts_S32x128_S1x32x128 (ix3 u r l)
      = x1 (ix3 ⟨8 * j + l / 16, by omega⟩ ⟨32 * s + r, by omega⟩ ⟨128 * half + (16 * k + l % 16), by omega⟩) := by
  pointwise []
  rw [exchange_apply]
  have e := tiles_val arg3 harg3 x1 s j half ⟨l / 16, by omega⟩
  simp only [] at e
  rw [e, tile_apply]

theorem scanPiece_at (s : Fin 2) (j : Fin 4) (half : Fin 2) (k : Fin 8) (x : (scanRect s j half k).shape.Idx)
    (u : Fin 1) (r : Fin 32) (l : Fin 128) (h1 : u.val = (x (1 : Fin 4)).val) (h2 : r.val = (x (2 : Fin 4)).val)
    (h3 : l.val = (x (3 : Fin 4)).val) :
    (scanPiece arg3 harg3 x1 s j half k).2 x
      = shapeCast S1x32x128 (exchange (tiles arg3 harg3 x1 s j half) k) shapeCasts_S32x128_S1x32x128 (ix3 u r l) := by
  unfold scanPiece
  generalize shapeCast S1x32x128 (exchange (tiles arg3 harg3 x1 s j half) k) shapeCasts_S32x128_S1x32x128 = w
  have hz : ∀ i : Fin 3, ((ix3 u r l : S1x32x128.Idx) i).val = (x i.succ).val := by
    intro a
    fin_cases a
    · exact h1
    · exact h2
    · exact h3
  exact congrArg w (funext fun i => Fin.ext
    ((Rect.reshapeEquiv_consLift_succ (scanInner j half k) ![1, 4, 640, 128] rfl (by intro a; fin_cases a <;> rfl) x i).symm.trans
      (hz i).symm))

theorem scanPiece_apply (s : Fin 2) (j : Fin 4) (half : Fin 2) (k : Fin 8) (x : (scanRect s j half k).shape.Idx) :
    (scanPiece arg3 harg3 x1 s j half k).2 x = scanAt x1 ((scanRect s j half k).emb x) := by
  have hx (a : Fin 4) : (x a).val < ![1, 1, 32, 128] a := (scanRect_size s j half k a) ▸ (x a).isLt
  have e := scanRect_emb s j half k x
  obtain ⟨u0, h0⟩ : ∃ u : Fin 1, u.val = (x (0 : Fin 4)).val := ⟨⟨_, hx 0⟩, rfl⟩
  obtain ⟨u, h1⟩ : ∃ u : Fin 1, u.val = (x (1 : Fin 4)).val := ⟨⟨_, hx 1⟩, rfl⟩
  obtain ⟨r, h2⟩ : ∃ u : Fin 32, u.val = (x (2 : Fin 4)).val := ⟨⟨_, hx 2⟩, rfl⟩
  obtain ⟨l, h3⟩ : ∃ u : Fin 128, u.val = (x (3 : Fin 4)).val := ⟨⟨_, hx 3⟩, rfl⟩
  have e0 := e 0
  have e1 := e 1
  have e2 := e 2
  have e3 := e 3
  generalize (scanRect s j half k).emb x = y at e0 e1 e2 e3
  rw [scanPiece_at arg3 harg3 x1 s j half k x u r l h1 h2 h3, exchanged_apply]
  refine (scanAt_of x1 y s j half k r l ?_ ?_ ?_ ?_).symm
  · rw [e0, ← h0]; simp
  · rw [e1, ← h1]; simp
  · rw [e2, ← h2]; simp
  · rw [e3, ← h3]; simp

/-- The list of the pieces, newest first. -/
noncomputable def scanPieceN (n : Fin 128) : View.Piece (Elt Ideal) S2x4x640x128 .f32 :=
  scanPiece arg3 harg3 x1 ⟨n / 64, by omega⟩ ⟨n / 16 % 4, by omega⟩ ⟨n / 8 % 2, by omega⟩ ⟨n % 8, by omega⟩

/-- The numbers of the pieces, newest first. -/
def newest : List (Fin 128) :=
  [127, 126, 125, 124, 123, 122, 121, 120, 119, 118, 117, 116, 115, 114, 113, 112,
   111, 110, 109, 108, 107, 106, 105, 104, 103, 102, 101, 100, 99, 98, 97, 96,
   95, 94, 93, 92, 91, 90, 89, 88, 87, 86, 85, 84, 83, 82, 81, 80,
   79, 78, 77, 76, 75, 74, 73, 72, 71, 70, 69, 68, 67, 66, 65, 64,
   63, 62, 61, 60, 59, 58, 57, 56, 55, 54, 53, 52, 51, 50, 49, 48,
   47, 46, 45, 44, 43, 42, 41, 40, 39, 38, 37, 36, 35, 34, 33, 32,
   31, 30, 29, 28, 27, 26, 25, 24, 23, 22, 21, 20, 19, 18, 17, 16,
   15, 14, 13, 12, 11, 10, 9, 8, 7, 6, 5, 4, 3, 2, 1, 0]

theorem HS2_eq : kernelRun0_A.sl.HS2_128 (F := Ideal) c arg3 harg3 x1 = newest.map (scanPieceN arg3 harg3 x1) := by
  unfold kernelRun0_A.sl.HS2_128
  rfl

/-- The scratch at a written row. -/
theorem canon_scan (y : S2x4x640x128.Idx) (hy : (y 2).val % 40 < 32) :
    View.canon (kernelRun0_A.sl.HS2_128 (F := Ideal) c arg3 harg3 x1) y = scanAt x1 y := by
  rw [HS2_eq]
  have h0 : (y 0).val < 2 := (y 0).isLt
  have h1 : (y 1).val < 4 := (y 1).isLt
  have h2 : (y 2).val < 640 := (y 2).isLt
  have h3 : (y 3).val < 128 := (y 3).isLt
  refine View.canon_apply_of_pieces (Val := Elt Ideal) (e := .f32) (scanAt x1) _ ?_ y ?_
  · intro p hp
    obtain ⟨n, -, rfl⟩ := List.mem_map.1 hp
    exact scanPiece_apply arg3 harg3 x1 _ _ _ _
  · have hn : 64 * (y 0).val + 16 * (y 1).val + (y 2).val / 40 < 128 := by omega
    refine ⟨_, List.mem_map.2 ⟨⟨_, hn⟩, ?_, rfl⟩, ?_⟩
    · have : ∀ n : Fin 128, n ∈ newest := by decide +kernel
      exact this _
    · refine (LoadRect.mem_set _).2 fun a => ?_
      fin_cases a
      · refine ⟨0, Nat.one_pos, ?_⟩
        show (y 0).val = (64 * (y 0).val + 16 * (y 1).val + (y 2).val / 40) / 64 + 0 + 1 * 0
        omega
      · refine ⟨0, Nat.one_pos, ?_⟩
        show (y 1).val = 0 + (64 * (y 0).val + 16 * (y 1).val + (y 2).val / 40) / 16 % 4 + 1 * 0
        omega
      · refine ⟨(y 2).val % 40, hy, ?_⟩
        show (y 2).val = 0 + 40 * (8 * ((64 * (y 0).val + 16 * (y 1).val + (y 2).val / 40) / 8 % 2)
          + (64 * (y 0).val + 16 * (y 1).val + (y 2).val / 40) % 8) + 1 * ((y 2).val % 40)
        omega
      · refine ⟨(y 3).val, h3, ?_⟩
        show (y 3).val = 0 + 0 + 1 * (y 3).val
        omega

/-- Sixteen rows of the scratch, one from each position's forty. -/
def rowsInner (j : Fin 4) (k : Fin 32) : LoadRect S4x640x128 where
  off := ![j, k, 0]
  size := S1x16x128.size
  stride := ![1, 40, 1]
  inb := by intro a; fin_cases a <;> (simp [S1x16x128, S4x640x128] <;> omega)
def rowsRect (s : Fin 2) (j : Fin 4) (k : Fin 32) : LoadRect S2x4x640x128 :=
  (Rect.unit (s := S2x4x640x128) ![s, 0, 0, 0] S1x4x640x128.size
      (by intro a; fin_cases a <;> (simp [S1x4x640x128, S2x4x640x128] <;> omega))).withinL
    ((rowsInner j k).consLift ![1, 4, 640, 128] rfl (by intro a; fin_cases a <;> rfl)) (fun _ => rfl)
noncomputable def scanRows (s : Fin 2) (j : Fin 4) (k : Fin 32) : FVec Ideal S16x128 .f32 :=
  shapeCast (s := S1x16x128) (α := EReal) S16x128 (LoadRect.valAlong (lr := rowsInner j k)
    (LoadRect.numel_consLift (rowsInner j k) ![1, 4, 640, 128] rfl (by intro a; fin_cases a <;> rfl))
      (arg18.view.readCov (kernelRun0_A.sl.HS2_128 (F := Ideal) c arg3 harg3 x1) (rowsRect s j k))) shapeCasts_S1x16x128_S16x128

theorem rowsRect_idx (s : Fin 2) (j : Fin 4) (k : Fin 32) (x : (rowsRect s j k).shape.Idx) (a : Fin 4) :
    ((rowsRect s j k).idx x a : ℕ) = ![s.val, j.val, k, 0] a + ![1, 1, 40, 1] a * (x a).val := by
  rw [LoadRect.idx_apply]
  fin_cases a
  · show s.val + 0 + 1 * (x (0 : Fin 4)).val = s.val + 1 * (x (0 : Fin 4)).val
    omega
  · show 0 + j.val + 1 * (x (1 : Fin 4)).val = j.val + 1 * (x (1 : Fin 4)).val
    omega
  · show 0 + k.val + 40 * (x (2 : Fin 4)).val = k.val + 40 * (x (2 : Fin 4)).val
    omega
  · show 0 + 0 + 1 * (x (3 : Fin 4)).val = 0 + 1 * (x (3 : Fin 4)).val
    omega

theorem scanRows_apply (s : Fin 2) (j : Fin 4) (k : Fin 32) (t : Fin 16) (l : Fin 128) :
    scanRows c arg3 harg3 arg18 x1 s j k (ix2 t l)
      = x1 (ix3 ⟨8 * j + l / 16, by omega⟩ ⟨32 * s + k, by omega⟩ ⟨16 * t + l % 16, by omega⟩) := by
  unfold scanRows
  pointwise []
  have hx : (Shape.reshapeEquiv (LoadRect.numel_consLift (rowsInner j k) ![1, 4, 640, 128] rfl (by intro a; fin_cases a <;> rfl))
      (ix3 0 t l) : (rowsRect s j k).shape.Idx) = Fin.cons ⟨0, Nat.one_pos⟩ (ix3 0 t l : S1x16x128.Idx) :=
    Shape.reshapeEquiv_cons_one (d := (rowsInner j k).size) _ _
  have e := rowsRect_idx s j k (Fin.cons ⟨0, Nat.one_pos⟩ (ix3 0 t l : S1x16x128.Idx))
  have e0 : _ = s.val + 1 * 0 := e 0
  have e1 : _ = j.val + 1 * 0 := e 1
  have e2 : _ = k.val + 40 * t.val := e 2
  have e3 : _ = 0 + 1 * l.val := e 3
  refine (congrArg (arg18.view.readCov (kernelRun0_A.sl.HS2_128 (F := Ideal) c arg3 harg3 x1) (rowsRect s j k)) hx).trans ?_
  rw [View.readCov_eq_canon']
  show View.canon _ ((rowsRect s j k).idx _) = _
  refine (show ∀ y : S2x4x640x128.Idx, (y 0).val = s + 1 * 0 → (y 1).val = j + 1 * 0 → (y 2).val = k + 40 * t →
    (y 3).val = 0 + 1 * l → View.canon (kernelRun0_A.sl.HS2_128 (F := Ideal) c arg3 harg3 x1) y
      = x1 (ix3 ⟨8 * j + l / 16, by omega⟩ ⟨32 * s + k, by omega⟩ ⟨16 * t + l % 16, by omega⟩) from ?_) _ e0 e1 e2 e3
  intro y e0 e1 e2 e3
  rw [canon_scan c arg3 harg3 x1 y (by omega)]
  unfold scanAt
  congr 1
  simp only [e0, e1, e2, e3]
  congr 2 <;> omega

/-- The rows of all groups of sixteen, one below another. -/
noncomputable def scanCols (s : Fin 2) (j : Fin 4) : FVec Ideal S512x128 .f32 :=
  concatenate S512x128 0 (List.ofFn fun k : Fin 32 => ⟨S16x128, scanRows c arg3 harg3 arg18 x1 s j k⟩)
    (by simp only [List.map_ofFn, Function.comp_def]; decide +kernel)

theorem scanCols_apply (s : Fin 2) (j : Fin 4) (r : Fin 512) (l : Fin 128) :
    scanCols c arg3 harg3 arg18 x1 s j (ix2 r l)
      = x1 (ix3 ⟨8 * j + l / 16, by omega⟩ ⟨32 * s + r / 16, by omega⟩ ⟨16 * (r % 16) + l % 16, by omega⟩) :=
  (concatenate_ofFn_apply (s₁ := S16x128) (t := S512x128) (N := 32) 0 _ _ rfl 16 rfl (ix2 r l) ⟨r / 16, by omega⟩ rfl
    (ix2 ⟨r % 16, by omega⟩ l) rfl (by intro b hb; fin_cases b; · exact absurd rfl hb
                                       · rfl)).trans (scanRows_apply c arg3 harg3 arg18 x1 s j _ _ _)

theorem v4516_eq : kernelRun0_A.sl.v4516 (F := Ideal) c arg3 harg3 arg18 x1 = scanCols c arg3 harg3 arg18 x1 0 0 := by
  unfold kernelRun0_A.sl.v4516
  rfl
theorem v4645_eq : kernelRun0_A.sl.v4645 (F := Ideal) c arg3 harg3 arg18 x1 = scanCols c arg3 harg3 arg18 x1 0 1 := by
  unfold kernelRun0_A.sl.v4645
  rfl
theorem v4774_eq : kernelRun0_A.sl.v4774 (F := Ideal) c arg3 harg3 arg18 x1 = scanCols c arg3 harg3 arg18 x1 0 2 := by
  unfold kernelRun0_A.sl.v4774
  rfl
theorem v5072_eq : kernelRun0_A.sl.v5072 (F := Ideal) c arg3 harg3 arg18 x1 = scanCols c arg3 harg3 arg18 x1 1 0 := by
  unfold kernelRun0_A.sl.v5072
  rfl
theorem v5201_eq : kernelRun0_A.sl.v5201 (F := Ideal) c arg3 harg3 arg18 x1 = scanCols c arg3 harg3 arg18 x1 1 1 := by
  unfold kernelRun0_A.sl.v5201
  rfl
theorem v5330_eq : kernelRun0_A.sl.v5330 (F := Ideal) c arg3 harg3 arg18 x1 = scanCols c arg3 harg3 arg18 x1 1 2 := by
  unfold kernelRun0_A.sl.v5330
  rfl

/-- The four column blocks side by side. -/
noncomputable def scanMat (s : Fin 2) : FVec Ideal S512x512 .f32 :=
  concatenate S512x512 1 (List.ofFn fun j : Fin 4 => ⟨S512x128, scanCols c arg3 harg3 arg18 x1 s j⟩)
    (by simp only [List.map_ofFn, Function.comp_def]; decide +kernel)

theorem scanMat_apply (s : Fin 2) (r e : Fin 512) :
    scanMat c arg3 harg3 arg18 x1 s (ix2 r e)
      = x1 (ix3 ⟨e / 16, by omega⟩ ⟨32 * s + r / 16, by omega⟩ ⟨16 * (r % 16) + e % 16, by omega⟩) := by
  refine (concatenate_ofFn_apply (s₁ := S512x128) (t := S512x512) (N := 4) 1 _ _ rfl 128 rfl (ix2 r e) ⟨e / 128, by omega⟩ rfl
    (ix2 r ⟨e % 128, by omega⟩) rfl (by intro b hb; fin_cases b; · rfl
                                        · exact absurd rfl hb)).trans ((scanCols_apply c arg3 harg3 arg18 x1 s _ _ _).trans ?_)
  congr 1
  simp only []
  congr 2 <;> omega

/-- The cubic approximation of gelu, the block's form, on a matrix. -/
noncomputable def geluM (v : FVec Ideal S512x512 .f32) : FVec Ideal S512x512 .bf16 :=
  truncf .bf16 (addf v (mulf v (tanh (mulf v (addf (broadcast S512x512 (Scalar.ofBits .f32 0x3FCC422A#32))
    (mulf (broadcast S512x512 (Named.named κ "gelu_cubic" 0x3E922279#32)) (mulf v v))))))) bitsLt_bf16_f32

theorem r_42_eq : kernelRun0_A.sl.r_42 (F := Ideal) c arg3 harg3 arg18 x1 = geluM (scanMat c arg3 harg3 arg18 x1 1) := by
  unfold kernelRun0_A.sl.r_42
  rfl

variable (arg11 : Memref sig .tc .vmem S512x1024 .bf16) (harg11 : arg11.IsWhole) (x9 : Vec Ideal S512x1024 .bf16)

/-- The product with the gate's weights. -/
noncomputable def gluM (v : FVec Ideal S512x512 .bf16) (w : FVec Ideal S512x1024 .bf16) : FVec Ideal S512x1024 .f32 :=
  matmul dot_S512x512_S512x1024_S512x1024_1_0_0_1_n_n none v (shapeCast S512x1024 w shapeCasts_S512x1024_S512x1024)
    (constant S512x1024 .f32 0x00000000#32)

theorem r_39_eq : kernelRun0_A.sl.r_39 (F := Ideal) c arg3 harg3 arg11 harg11 arg18 x1 x9
    = gluM (geluM (scanMat c arg3 harg3 arg18 x1 0)) (View.readAt (Elt Ideal) arg11.view
      (Rect.unit (s := S512x1024) ![0, 0] S512x1024.size (by intro a; fin_cases a <;> (simp [S512x1024]))).toLoadRect (harg11.unread x9)) := by
  unfold kernelRun0_A.sl.r_39
  rfl
theorem v5484_eq : kernelRun0_A.sl.v5484 (F := Ideal) c arg3 harg3 arg11 harg11 arg18 x1 x9
    = gluM (geluM (scanMat c arg3 harg3 arg18 x1 1)) (View.readAt (Elt Ideal) arg11.view
      (Rect.unit (s := S512x1024) ![0, 0] S512x1024.size (by intro a; fin_cases a <;> (simp [S512x1024]))).toLoadRect (harg11.unread x9)) := by
  rw [← r_42_eq]
  unfold kernelRun0_A.sl.v5484
  rfl

end Cert.Block
-- ==== Proof.MixScratch.lean ====
/- The block's two scratches of the spatial mixing: the normed value rows, and the mixed rows, head by head. -/
module

public import proofs.«01_k».proof.Proof.BlockRow
public import Idealize.ShloMosaic.Lib.Pipeline.ReadBack

@[expose] public section

namespace Cert.Block

open Cert.KernelIdeal Cert.KernelIdeal.Gen Cert.Chunk Cert.Args Idealize.ShloMosaic Idealize.ShloMosaic.TcCoe
  Idealize.ShloMosaic.Tactic

variable (c : Dev nD)
  (arg2 : Memref sig .tc .vmem S8x128x1024 .f32) (harg2 : arg2.IsWhole)
  (arg4 : Memref sig .tc .vmem S1x1024 .f32) (harg4 : arg4.IsWhole)
  (arg5 : Memref sig .tc .vmem S1024x6144 .bf16) (harg5 : arg5.IsWhole)
  (arg6 : Memref sig .tc .vmem S1x1024 .f32) (harg6 : arg6.IsWhole)
  (arg8 : Memref sig .tc .vmem S8x128x128 .bf16) (harg8 : arg8.IsWhole)
  (arg9 : Memref sig .tc .vmem S128x1024 .f32) (harg9 : arg9.IsWhole)
  (arg16 : Memref sig .tc .vmem S2x512x1024 .bf16) (arg17 : Memref sig .tc .vmem S2x512x1024 .f32)
  (x0 : Vec Ideal S8x128x1024 .f32) (x2 : Vec Ideal S1x1024 .f32) (x3 : Vec Ideal S1024x6144 .bf16)
  (x4 : Vec Ideal S1x1024 .f32) (x6 : Vec Ideal S8x128x128 .bf16) (x7 : Vec Ideal S128x1024 .f32)

/-! ## The normed value rows -/

/-- Axis 0 of the scratch: the two halves of the block, one whole half a rectangle. -/
def halfRect (s : Fin 2) : Rect S2x512x1024 :=
  Rect.unit (s := S2x512x1024) ![s, 0, 0] S1x512x1024.size
    (by intro a; fin_cases a <;> (simp [S1x512x1024, S2x512x1024] <;> omega))

/-- The stores into the scratch before half `s` is read. -/
noncomputable def vnStores : ℕ → List (View.Piece (Elt Ideal) S2x512x1024 .bf16)
  | 0 => kernelRun0_A.sl.HS0_1 (F := Ideal) c arg2 harg2 arg4 harg4 arg5 harg5 x0 x2 x3
  | _ => kernelRun0_A.sl.HS0_2 (F := Ideal) c arg2 harg2 arg4 harg4 arg5 harg5 x0 x2 x3

/-- What the scratch holds. -/
noncomputable def vnAt (y : S2x512x1024.Idx) : EReal :=
  kVn (xnB x0 x2 (y 0) (rb (y 1))) (mat2 x3) (rt (y 1)) (y 2)

theorem halfRect_apply (s : Fin 2) (v : S1x512x1024.Idx → EReal)
    (hv : ∀ (r : Fin 512) (a : Fin 1024), v (ix3 0 r a) = kVn (xnB x0 x2 s (rb r)) (mat2 x3) (rt r) a)
    (x : (halfRect s).shape.Idx) : v x = vnAt x0 x2 x3 ((halfRect s).emb x) := by
  have h0 : (x (0 : Fin 3)).val < 1 := (x (0 : Fin 3)).isLt
  have e0 : (halfRect s).emb x (0 : Fin 3) = s := Fin.ext (by
    show s.val + 1 * (x (0 : Fin 3)).val = s.val
    omega)
  have e1 : (halfRect s).emb x (1 : Fin 3) = x (1 : Fin 3) := Fin.ext (by
    show 0 + 1 * (x (1 : Fin 3)).val = (x (1 : Fin 3)).val
    omega)
  have e2 : (halfRect s).emb x (2 : Fin 3) = x (2 : Fin 3) := Fin.ext (by
    show 0 + 1 * (x (2 : Fin 3)).val = (x (2 : Fin 3)).val
    omega)
  unfold vnAt
  rw [e0, e1, e2]
  refine (congrArg v (funext fun a => ?_)).trans (hv (x (1 : Fin 3)) (x (2 : Fin 3)))
  fin_cases a
  · exact Fin.ext (by show (x (0 : Fin 3)).val = 0; omega)
  · rfl
  · rfl

theorem canon_vn (s : Fin 2) (y : S2x512x1024.Idx) (hy : y 0 = s) :
    View.canon (vnStores c arg2 harg2 arg4 harg4 arg5 harg5 x0 x2 x3 s) y = vnAt x0 x2 x3 y := by
  have hmem : y ∈ (halfRect s).set := Rect.mem_set_unit.2 fun a => by
    have h1 : (y 1).val < 512 := (y 1).isLt
    have h2 : (y 2).val < 1024 := (y 2).isLt
    subst hy
    fin_cases a
    · exact ⟨le_rfl, Nat.lt_succ_self _⟩
    · exact ⟨Nat.zero_le _, by show (y 1).val < 0 + 512; omega⟩
    · exact ⟨Nat.zero_le _, by show (y 2).val < 0 + 1024; omega⟩
  have H0 : ∀ x, (kernelRun0_A.sl.v1641 (F := Ideal) c arg2 harg2 arg4 harg4 arg5 harg5 x0 x2 x3 : S1x512x1024.Idx → EReal) x
      = vnAt x0 x2 x3 ((halfRect 0).emb x) := halfRect_apply x0 x2 x3 0 _ (v1641_apply c arg2 harg2 arg4 harg4 arg5 harg5 x0 x2 x3)
  have H1 : ∀ x, (k0_pay815 (kernelRun0_A.sl.r_9 (F := Ideal) c arg2 harg2 arg4 harg4 arg5 harg5 x0 x2 x3) : S1x512x1024.Idx → EReal) x
      = vnAt x0 x2 x3 ((halfRect 1).emb x) := halfRect_apply x0 x2 x3 1 _ (vn1_apply c arg2 harg2 arg4 harg4 arg5 harg5 x0 x2 x3)
  refine View.canon_apply_of_pieces (Val := Elt Ideal) (e := .bf16) (vnAt x0 x2 x3) _ ?_ y ?_
  · fin_cases s
    · intro p hp
      rcases List.mem_singleton.1 hp with rfl
      exact H0
    · intro p hp
      rcases List.mem_cons.1 hp with rfl | hp
      · exact H1
      · rcases List.mem_singleton.1 hp with rfl
        exact H0
  · fin_cases s
    · exact ⟨_, List.mem_singleton.2 rfl, hmem⟩
    · exact ⟨_, List.mem_cons.2 (.inl rfl), hmem⟩

/-- Batch `q`'s rows and head `h`'s channels. -/
def blockRect (q : Fin 4) (h : Fin 8) : Rect S512x1024 :=
  Rect.unit (s := S512x1024) ![128 * q, 128 * h] S128x128.size
    (by intro a; fin_cases a <;> (simp [S128x128, S512x1024] <;> omega))
def blockLoad (s : Fin 2) (q : Fin 4) (h : Fin 8) : LoadRect S2x512x1024 :=
  (halfRect s).withinL ((blockRect q h).toLoadRect.consLift ![1, 512, 1024] rfl (by intro a; fin_cases a <;> rfl)) (fun _ => rfl)

noncomputable def vnBlock (s : Fin 2) (q : Fin 4) (h : Fin 8) : FVec Ideal S128x128 .bf16 :=
  LoadRect.valAlong (lr := (blockRect q h).toLoadRect)
    (LoadRect.numel_consLift (blockRect q h).toLoadRect ![1, 512, 1024] rfl (by intro a; fin_cases a <;> rfl))
    (arg16.view.readCov (vnStores c arg2 harg2 arg4 harg4 arg5 harg5 x0 x2 x3 s) (blockLoad s q h))

theorem blockLoad_idx (s : Fin 2) (q : Fin 4) (h : Fin 8) (x : (blockLoad s q h).shape.Idx) (a : Fin 3) :
    ((blockLoad s q h).idx x a : ℕ) = ![s.val, 128 * q.val, 128 * h.val] a + (x a).val := by
  rw [LoadRect.idx_apply]
  fin_cases a
  · show s.val + 0 + 1 * (x (0 : Fin 3)).val = s.val + (x (0 : Fin 3)).val
    omega
  · show 0 + 128 * q.val + 1 * (x (1 : Fin 3)).val = 128 * q.val + (x (1 : Fin 3)).val
    omega
  · show 0 + 128 * h.val + 1 * (x (2 : Fin 3)).val = 128 * h.val + (x (2 : Fin 3)).val
    omega

theorem vnBlock_apply (s : Fin 2) (q : Fin 4) (h : Fin 8) (t l : Fin 128) :
    vnBlock c arg2 harg2 arg4 harg4 arg5 harg5 arg16 x0 x2 x3 s q h (ix2 t l)
      = kVn (xnB x0 x2 s q) (mat2 x3) t ⟨128 * h + l, by omega⟩ := by
  have hx : (Shape.reshapeEquiv (LoadRect.numel_consLift (blockRect q h).toLoadRect ![1, 512, 1024] rfl (by intro a; fin_cases a <;> rfl))
      (ix2 t l) : (blockLoad s q h).shape.Idx) = Fin.cons ⟨0, Nat.one_pos⟩ (ix2 t l : S128x128.Idx) :=
    Shape.reshapeEquiv_cons_one (d := (blockRect q h).size) _ _
  have e := blockLoad_idx s q h (Fin.cons ⟨0, Nat.one_pos⟩ (ix2 t l : S128x128.Idx))
  have e0 : _ = s.val + 0 := e 0
  have e1 : _ = 128 * q.val + t.val := e 1
  have e2 : _ = 128 * h.val + l.val := e 2
  refine (congrArg (arg16.view.readCov (vnStores c arg2 harg2 arg4 harg4 arg5 harg5 x0 x2 x3 s) (blockLoad s q h)) hx).trans ?_
  rw [View.readCov_eq_canon']
  refine (show ∀ y : S2x512x1024.Idx, (y 0).val = s + 0 → (y 1).val = 128 * q + t → (y 2).val = 128 * h + l →
    View.canon (vnStores c arg2 harg2 arg4 harg4 arg5 harg5 x0 x2 x3 s) y
      = kVn (xnB x0 x2 s q) (mat2 x3) t ⟨128 * h + l, by omega⟩ from ?_) _ e0 e1 e2
  intro y e0 e1 e2
  rw [canon_vn c arg2 harg2 arg4 harg4 arg5 harg5 x0 x2 x3 s y (Fin.ext e0)]
  unfold vnAt
  rw [show y 0 = s from Fin.ext e0, show rb (y 1) = q from Fin.ext (by unfold rb; simp only [e1]; omega),
    show rt (y 1) = t from Fin.ext (by unfold rt; simp only [e1]; omega),
    show y 2 = ⟨128 * h + l, by omega⟩ from Fin.ext e2]
  rfl

/-! ## The mixed rows -/

/-- The four batches' blocks of one head side by side. -/
noncomputable def vnCols (s : Fin 2) (h : Fin 8) : FVec Ideal S128x512 .bf16 :=
  concatenate S128x512 1 (List.ofFn fun q : Fin 4 => ⟨S128x128, vnBlock c arg2 harg2 arg4 harg4 arg5 harg5 arg16 x0 x2 x3 s q h⟩)
    (by simp only [List.map_ofFn, Function.comp_def]; decide +kernel)

theorem vnCols_apply (s : Fin 2) (h : Fin 8) (t : Fin 128) (q : Fin 4) (l : Fin 128) :
    vnCols c arg2 harg2 arg4 harg4 arg5 harg5 arg16 x0 x2 x3 s h (ix2 t ⟨128 * q + l, by omega⟩)
      = kVn (xnB x0 x2 s q) (mat2 x3) t ⟨128 * h + l, by omega⟩ :=
  (concatenate_ofFn_apply (s₁ := S128x128) (t := S128x512) (N := 4) 1 _ _ rfl 128 rfl (ix2 t ⟨128 * q + l, by omega⟩) q
    (by show (128 * q.val + l.val) / 128 = q.val; omega)
    (ix2 t l) (by show l.val = (128 * q.val + l.val) % 128; omega) (by intro b hb; fin_cases b; · rfl
                                                                       · exact absurd rfl hb)).trans
    (vnBlock_apply c arg2 harg2 arg4 harg4 arg5 harg5 arg16 x0 x2 x3 s q h t l)

theorem slices_batch (q : Fin 4) : S128x512.Slices ![0, 128 * q.val] S128x128 := by
  revert q
  decide

/-- One head of one batch mixed over the positions, with its gain and bias. -/
noncomputable def mixBlock (s : Fin 2) (q : Fin 4) (h : Fin 8) : FVec Ideal S128x128 .f32 :=
  shapeCast S128x128 (addf (mulf (extractStridedSlice S128x128 ![0, 128 * q.val]
      (matmul dot_S128x128_S128x512_S128x512_1_0_0_1_n_n none
        (shapeCast (s := S1x128x128) (α := Ideal .bf16) S128x128 (View.readAt (Elt Ideal) arg8.view (Rect.unit (s := S8x128x128) ![h, 0, 0] S1x128x128.size
          (by intro a; fin_cases a <;> (simp [S1x128x128, S8x128x128] <;> omega))).toLoadRect (harg8.unread x6)) shapeCasts_S1x128x128_S128x128)
        (vnCols c arg2 harg2 arg4 harg4 arg5 harg5 arg16 x0 x2 x3 s h) (constant S128x512 .f32 0x00000000#32))
      (slices_batch q))
    (broadcastTo S128x128 (shapeCast (s := S1x128) (α := Ideal .f32) S1x128 (View.readAt (Elt Ideal) arg6.view (Rect.unit (s := S1x1024) ![0, 128 * h] S1x128.size
          (by intro a; fin_cases a <;> (simp [S1x128, S1x1024] <;> omega))).toLoadRect (harg6.unread x4)) shapeCasts_S1x128_S1x128)
      broadcasts_S1x128_S128x128))
    (shapeCast (s := S128x128) (α := Ideal .f32) S128x128 (View.readAt (Elt Ideal) arg9.view (Rect.unit (s := S128x1024) ![0, 128 * h] S128x128.size
          (by intro a; fin_cases a <;> (simp [S128x128, S128x1024] <;> omega))).toLoadRect (harg9.unread x7)) shapeCasts_S128x128_S128x128))
    shapeCasts_S128x128_S128x128

/-- The mixed row `t` of batch `q` of half `s`. -/
noncomputable def mixB (s : Fin 2) (q : Fin 4) : Fin 128 → Fin 1024 → EReal :=
  kMix (xnB x0 x2 s q) (mat2 x3) (row x4) (fun h t k => x6 (ix3 h t k)) (mat2 x7)

theorem mixBlock_apply (s : Fin 2) (q : Fin 4) (h : Fin 8) (t l : Fin 128) :
    mixBlock c arg2 harg2 arg4 harg4 arg5 harg5 arg6 harg6 arg8 harg8 arg9 harg9 arg16 x0 x2 x3 x4 x6 x7 s q h (ix2 t l)
      = mixB x0 x2 x3 x4 x6 x7 s q t ⟨128 * h + l, by omega⟩ := by
  unfold mixBlock
  simp only [View.readAt_eq_ld, harg6.read_unread, harg8.read_unread, harg9.read_unread]
  pointwise []
  have hh : head ⟨128 * h + l, by omega⟩ = h := Fin.ext (by show (128 * h.val + l.val) / 128 = h.val; omega)
  unfold mixB kMix kMixOf
  rw [hh]
  simp only [vnCols_apply]
  rfl

/-- Where it is stored. -/
def mixRect (s : Fin 2) (q : Fin 4) (h : Fin 8) : Rect S2x512x1024 :=
  (halfRect s).within ((blockRect q h).consLift ![1, 512, 1024] rfl (by intro a; fin_cases a <;> rfl)) (fun _ => rfl)

noncomputable def mixPiece (s : Fin 2) (q : Fin 4) (h : Fin 8) : View.Piece (Elt Ideal) S2x512x1024 .f32 :=
  ⟨mixRect s q h, Rect.payAlong (r := blockRect q h)
    (Rect.numel_consLift (blockRect q h) ![1, 512, 1024] rfl (by intro a; fin_cases a <;> rfl))
    (mixBlock c arg2 harg2 arg4 harg4 arg5 harg5 arg6 harg6 arg8 harg8 arg9 harg9 arg16 x0 x2 x3 x4 x6 x7 s q h)⟩

theorem mixRect_emb (s : Fin 2) (q : Fin 4) (h : Fin 8) (x : (mixRect s q h).shape.Idx) (a : Fin 3) :
    ((mixRect s q h).emb x a : ℕ) = ![s.val, 128 * q.val, 128 * h.val] a + (x a).val := by
  rw [Rect.emb_apply]
  fin_cases a
  · show s.val + 0 + 1 * (x (0 : Fin 3)).val = s.val + (x (0 : Fin 3)).val
    omega
  · show 0 + 128 * q.val + 1 * (x (1 : Fin 3)).val = 128 * q.val + (x (1 : Fin 3)).val
    omega
  · show 0 + 128 * h.val + 1 * (x (2 : Fin 3)).val = 128 * h.val + (x (2 : Fin 3)).val
    omega

/-- What the scratch of the mixed rows holds. -/
noncomputable def mixAt (y : S2x512x1024.Idx) : EReal :=
  mixB x0 x2 x3 x4 x6 x7 (y 0) (rb (y 1)) (rt (y 1)) (y 2)

theorem mixAt_of (y : S2x512x1024.Idx) (s : Fin 2) (q : Fin 4) (h : Fin 8) (t l : Fin 128) (e0 : (y 0).val = s)
    (e1 : (y 1).val = 128 * q + t) (e2 : (y 2).val = 128 * h + l) :
    mixAt x0 x2 x3 x4 x6 x7 y = mixB x0 x2 x3 x4 x6 x7 s q t ⟨128 * h + l, by omega⟩ := by
  unfold mixAt
  rw [show y 0 = s from Fin.ext e0, show rb (y 1) = q from Fin.ext (by unfold rb; simp only [e1]; omega),
    show rt (y 1) = t from Fin.ext (by unfold rt; simp only [e1]; omega),
    show y 2 = ⟨128 * h + l, by omega⟩ from Fin.ext e2]
  rfl

theorem mixPiece_at (s : Fin 2) (q : Fin 4) (h : Fin 8) (x : (mixRect s q h).shape.Idx) (t l : Fin 128)
    (h1 : t.val = (x (1 : Fin 3)).val) (h2 : l.val = (x (2 : Fin 3)).val) :
    (mixPiece c arg2 harg2 arg4 harg4 arg5 harg5 arg6 harg6 arg8 harg8 arg9 harg9 arg16 x0 x2 x3 x4 x6 x7 s q h).2 x
      = mixBlock c arg2 harg2 arg4 harg4 arg5 harg5 arg6 harg6 arg8 harg8 arg9 harg9 arg16 x0 x2 x3 x4 x6 x7 s q h (ix2 t l) := by
  unfold mixPiece
  generalize mixBlock c arg2 harg2 arg4 harg4 arg5 harg5 arg6 harg6 arg8 harg8 arg9 harg9 arg16 x0 x2 x3 x4 x6 x7 s q h = w
  have hz : ∀ i : Fin 2, ((ix2 t l : S128x128.Idx) i).val = (x i.succ).val := by
    intro a
    fin_cases a
    · exact h1
    · exact h2
  exact congrArg w (funext fun i => Fin.ext
    ((Rect.reshapeEquiv_consLift_succ (blockRect q h) ![1, 512, 1024] rfl (by intro a; fin_cases a <;> rfl) x i).symm.trans
      (hz i).symm))

theorem mixPiece_apply (s : Fin 2) (q : Fin 4) (h : Fin 8) (x : (mixRect s q h).shape.Idx) :
    (mixPiece c arg2 harg2 arg4 harg4 arg5 harg5 arg6 harg6 arg8 harg8 arg9 harg9 arg16 x0 x2 x3 x4 x6 x7 s q h).2 x
      = mixAt x0 x2 x3 x4 x6 x7 ((mixRect s q h).emb x) := by
  have h0 : (x (0 : Fin 3)).val < 1 := (x (0 : Fin 3)).isLt
  have e := mixRect_emb s q h x
  obtain ⟨t, h1⟩ : ∃ u : Fin 128, u.val = (x (1 : Fin 3)).val := ⟨⟨_, (x (1 : Fin 3)).isLt⟩, rfl⟩
  obtain ⟨l, h2⟩ : ∃ u : Fin 128, u.val = (x (2 : Fin 3)).val := ⟨⟨_, (x (2 : Fin 3)).isLt⟩, rfl⟩
  have e0 : _ = s.val + (x (0 : Fin 3)).val := e 0
  have e1 : _ = 128 * q.val + (x (1 : Fin 3)).val := e 1
  have e2 : _ = 128 * h.val + (x (2 : Fin 3)).val := e 2
  rw [mixPiece_at c arg2 harg2 arg4 harg4 arg5 harg5 arg6 harg6 arg8 harg8 arg9 harg9 arg16 x0 x2 x3 x4 x6 x7 s q h x t l h1 h2,
    mixBlock_apply]
  exact (mixAt_of x0 x2 x3 x4 x6 x7 _ s q h t l (by omega) (by omega) (by omega)).symm

/-- The pieces by number: the batch runs fastest, then the head, then the half. -/
noncomputable def mixPieceN (n : Fin 64) : View.Piece (Elt Ideal) S2x512x1024 .f32 :=
  mixPiece c arg2 harg2 arg4 harg4 arg5 harg5 arg6 harg6 arg8 harg8 arg9 harg9 arg16 x0 x2 x3 x4 x6 x7
    ⟨n / 32, by omega⟩ ⟨n % 4, by omega⟩ ⟨n / 4 % 8, by omega⟩

/-- The numbers of the pieces, newest first. -/
def mixNewest : List (Fin 64) :=
  [63, 62, 61, 60, 59, 58, 57, 56, 55, 54, 53, 52, 51, 50, 49, 48,
   47, 46, 45, 44, 43, 42, 41, 40, 39, 38, 37, 36, 35, 34, 33, 32,
   31, 30, 29, 28, 27, 26, 25, 24, 23, 22, 21, 20, 19, 18, 17, 16,
   15, 14, 13, 12, 11, 10, 9, 8, 7, 6, 5, 4, 3, 2, 1, 0]

theorem HS1_eq : kernelRun0_A.sl.HS1_64 (F := Ideal) c arg2 harg2 arg4 harg4 arg5 harg5 arg6 harg6 arg8 harg8 arg9 harg9 arg16
      x0 x2 x3 x4 x6 x7
    = mixNewest.map (mixPieceN c arg2 harg2 arg4 harg4 arg5 harg5 arg6 harg6 arg8 harg8 arg9 harg9 arg16 x0 x2 x3 x4 x6 x7) := by
  unfold kernelRun0_A.sl.HS1_64
  rfl

theorem canon_mix (y : S2x512x1024.Idx) :
    View.canon (kernelRun0_A.sl.HS1_64 (F := Ideal) c arg2 harg2 arg4 harg4 arg5 harg5 arg6 harg6 arg8 harg8 arg9 harg9 arg16
      x0 x2 x3 x4 x6 x7) y = mixAt x0 x2 x3 x4 x6 x7 y := by
  rw [HS1_eq]
  have h0 : (y 0).val < 2 := (y 0).isLt
  have h1 : (y 1).val < 512 := (y 1).isLt
  have h2 : (y 2).val < 1024 := (y 2).isLt
  refine View.canon_apply_of_pieces (Val := Elt Ideal) (e := .f32) (mixAt x0 x2 x3 x4 x6 x7) _ ?_ y ?_
  · intro p hp
    obtain ⟨n, -, rfl⟩ := List.mem_map.1 hp
    exact mixPiece_apply c arg2 harg2 arg4 harg4 arg5 harg5 arg6 harg6 arg8 harg8 arg9 harg9 arg16 x0 x2 x3 x4 x6 x7 _ _ _
  · have hn : 32 * (y 0).val + 4 * ((y 2).val / 128) + (y 1).val / 128 < 64 := by omega
    refine ⟨_, List.mem_map.2 ⟨⟨_, hn⟩, ?_, rfl⟩, ?_⟩
    · have : ∀ n : Fin 64, n ∈ mixNewest := by decide +kernel
      exact this _
    · refine (LoadRect.mem_set _).2 fun a => ?_
      fin_cases a
      · refine ⟨0, Nat.one_pos, ?_⟩
        show (y 0).val = (32 * (y 0).val + 4 * ((y 2).val / 128) + (y 1).val / 128) / 32 + 0 + 1 * 0
        omega
      · refine ⟨(y 1).val % 128, Nat.mod_lt _ (by decide), ?_⟩
        show (y 1).val = 0 + 128 * ((32 * (y 0).val + 4 * ((y 2).val / 128) + (y 1).val / 128) % 4) + 1 * ((y 1).val % 128)
        omega
      · refine ⟨(y 2).val % 128, Nat.mod_lt _ (by decide), ?_⟩
        show (y 2).val = 0 + 128 * ((32 * (y 0).val + 4 * ((y 2).val / 128) + (y 1).val / 128) / 4 % 8) + 1 * ((y 2).val % 128)
        omega

/-- A load of a whole half. -/
theorem mix_read (s : Fin 2) (r : Fin 512) (a : Fin 1024) :
    arg17.view.readCov (kernelRun0_A.sl.HS1_64 (F := Ideal) c arg2 harg2 arg4 harg4 arg5 harg5 arg6 harg6 arg8 harg8 arg9 harg9
      arg16 x0 x2 x3 x4 x6 x7) (halfRect s).toLoadRect (ix3 0 r a) = mixB x0 x2 x3 x4 x6 x7 s (rb r) (rt r) a := by
  rw [View.readCov_eq_canon']
  refine (canon_mix c arg2 harg2 arg4 harg4 arg5 harg5 arg6 harg6 arg8 harg8 arg9 harg9 arg16 x0 x2 x3 x4 x6 x7 _).trans ?_
  have e0 : (halfRect s).toLoadRect.idx (ix3 0 r a) (0 : Fin 3) = s := Fin.ext (by
    show s.val + 1 * 0 = s.val
    omega)
  have e1 : (halfRect s).toLoadRect.idx (ix3 0 r a) (1 : Fin 3) = r := Fin.ext (by
    show 0 + 1 * r.val = r.val
    omega)
  have e2 : (halfRect s).toLoadRect.idx (ix3 0 r a) (2 : Fin 3) = a := Fin.ext (by
    show 0 + 1 * a.val = a.val
    omega)
  unfold mixAt
  rw [e0, e1, e2]

theorem v4356_apply (r : Fin 512) (a : Fin 1024) :
    kernelRun0_A.sl.v4356 (F := Ideal) c arg2 harg2 arg4 harg4 arg5 harg5 arg6 harg6 arg8 harg8 arg9 harg9 arg16 arg17
      x0 x2 x3 x4 x6 x7 (ix3 0 r a) = mixB x0 x2 x3 x4 x6 x7 0 (rb r) (rt r) a :=
  mix_read c arg2 harg2 arg4 harg4 arg5 harg5 arg6 harg6 arg8 harg8 arg9 harg9 arg16 arg17 x0 x2 x3 x4 x6 x7 0 r a
theorem v4915_apply (r : Fin 512) (a : Fin 1024) :
    kernelRun0_A.sl.v4915 (F := Ideal) c arg2 harg2 arg4 harg4 arg5 harg5 arg6 harg6 arg8 harg8 arg9 harg9 arg16 arg17
      x0 x2 x3 x4 x6 x7 (ix3 0 r a) = mixB x0 x2 x3 x4 x6 x7 1 (rb r) (rt r) a :=
  mix_read c arg2 harg2 arg4 harg4 arg5 harg5 arg6 harg6 arg8 harg8 arg9 harg9 arg16 arg17 x0 x2 x3 x4 x6 x7 1 r a

end Cert.Block
-- ==== Proof.BlockTail.lean ====
/- The rows of the block after the two scratches: the gated halves, their sum, the output projection and the last norm. -/
module

public import proofs.«01_k».proof.Proof.ScanScratch
public import proofs.«01_k».proof.Proof.MixScratch

@[expose] public section

namespace Cert.Block

open Cert.KernelIdeal Cert.KernelIdeal.Gen Cert.Chunk Cert.Args Idealize.ShloMosaic Idealize.ShloMosaic.TcCoe
  Idealize.ShloMosaic.Tactic

variable (c : Dev nD)
  (arg2 : Memref sig .tc .vmem S8x128x1024 .f32) (harg2 : arg2.IsWhole)
  (arg3 : Memref sig .tc .vmem S32x64x256 .bf16) (harg3 : arg3.IsWhole)
  (arg4 : Memref sig .tc .vmem S1x1024 .f32) (harg4 : arg4.IsWhole)
  (arg5 : Memref sig .tc .vmem S1024x6144 .bf16) (harg5 : arg5.IsWhole)
  (arg6 : Memref sig .tc .vmem S1x1024 .f32) (harg6 : arg6.IsWhole)
  (arg8 : Memref sig .tc .vmem S8x128x128 .bf16) (harg8 : arg8.IsWhole)
  (arg9 : Memref sig .tc .vmem S128x1024 .f32) (harg9 : arg9.IsWhole)
  (arg10 : Memref sig .tc .vmem S1024x1024 .bf16) (harg10 : arg10.IsWhole)
  (arg11 : Memref sig .tc .vmem S512x1024 .bf16) (harg11 : arg11.IsWhole)
  (arg12 : Memref sig .tc .vmem S512x1024 .bf16) (harg12 : arg12.IsWhole)
  (arg13 : Memref sig .tc .vmem S1024x1024 .bf16) (harg13 : arg13.IsWhole)
  (arg14 : Memref sig .tc .vmem S1x1024 .f32) (harg14 : arg14.IsWhole)
  (arg16 : Memref sig .tc .vmem S2x512x1024 .bf16) (arg17 : Memref sig .tc .vmem S2x512x1024 .f32)
  (arg18 : Memref sig .tc .vmem S2x4x640x128 .f32)
  (x0 : Vec Ideal S8x128x1024 .f32) (x1 : Vec Ideal S32x64x256 .bf16) (x2 : Vec Ideal S1x1024 .f32)
  (x3 : Vec Ideal S1024x6144 .bf16) (x4 : Vec Ideal S1x1024 .f32) (x6 : Vec Ideal S8x128x128 .bf16)
  (x7 : Vec Ideal S128x1024 .f32) (x8 : Vec Ideal S1024x1024 .bf16) (x9 x10 : Vec Ideal S512x1024 .bf16)
  (x11 : Vec Ideal S1024x1024 .bf16) (x12 : Vec Ideal S1x1024 .f32)

/-- Row `t` of batch `q` of half `s`: the scan output's 512 channels. -/
def yB (s : Fin 2) (q : Fin 4) (t : Fin 128) (e : Fin 512) : EReal :=
  x1 (ix3 ⟨e / 16, by omega⟩ ⟨32 * s + 8 * q + t / 16, by omega⟩ ⟨16 * (t % 16) + e % 16, by omega⟩)

/-- Row `t` of batch `q` of half `s`: the merged mixers. -/
noncomputable def mergedB (s : Fin 2) (q : Fin 4) : Fin 128 → Fin 1024 → EReal :=
  kMerged (xnB x0 x2 s q) (yB x1 s q) (mat2 x3) (row x4) (fun h t k => x6 (ix3 h t k)) (mat2 x7) (mat2 x8) (mat2 x9) (mat2 x10)

theorem scanMat_row (s : Fin 2) (r : Fin 512) (e : Fin 512) :
    scanMat c arg3 harg3 arg18 x1 s (ix2 r e) = yB x1 s (rb r) (rt r) e := by
  rw [scanMat_apply]
  unfold yB rb rt
  congr 1
  simp only []
  congr 2 <;> omega

theorem geluM_apply (v : FVec Ideal S512x512 .f32) (r e : Fin 512) : geluM v (ix2 r e) = geluH (v (ix2 r e)) := by
  pointwise [geluM]
  simp only [lit_2cG, gelu_cubic]
  rfl

/-- The scan's gated linear unit before its gate. -/
theorem glu_apply (s : Fin 2) (r : Fin 512) (j : Fin 1024) :
    gluM (geluM (scanMat c arg3 harg3 arg18 x1 s)) (View.readAt (Elt Ideal) arg11.view
      (Rect.unit (s := S512x1024) ![0, 0] S512x1024.size (by intro a; fin_cases a <;> (simp [S512x1024]))).toLoadRect (harg11.unread x9))
      (ix2 r j) = kPq (yB x1 s (rb r)) (mat2 x9) (rt r) j := by
  unfold gluM
  simp only [View.readAt_eq_ld, harg11.read_unread]
  pointwise []
  simp only [geluM_apply, scanMat_row]
  rfl

/-- The block's input at batch `4 s + q`, position `t`, channel `d`. -/
noncomputable def xB (s : Fin 2) (q : Fin 4) (t : Fin 128) (d : Fin 1024) : EReal := x0 (ix3 ⟨4 * s + q, by omega⟩ t d)

theorem v1_apply (r : Fin 512) (d : Fin 1024) : kernelRun0_A.sl.v1 (F := Ideal) c arg2 harg2 x0 (ix2 r d)
    = xB x0 0 (rb r) (rt r) d := by
  sl_unfold_run_names
  simp only [View.readAt_eq_ld, harg2.read_unread]
  pointwise []
  unfold xB
  refine congrArg (fun b => x0 (ix3 b (rt r) d)) (Fin.ext ?_)
  show (rb r : ℕ) = 4 * 0 + rb r
  omega

theorem v3_apply (r : Fin 512) (d : Fin 1024) : kernelRun0_A.sl.v3 (F := Ideal) c arg2 harg2 x0 (ix2 r d)
    = xB x0 1 (rb r) (rt r) d := by
  sl_unfold_run_names
  simp only [View.readAt_eq_ld, harg2.read_unread]
  pointwise []
  rfl

/-- The gated half of the spatial mixer. -/
noncomputable def gateA (s : Fin 2) (q : Fin 4) (t : Fin 128) (d : Fin 1024) : EReal :=
  gateH (dot (xnB x0 x2 s q t) (mat2 x3) (col 4096 (by decide) d))
    (kYa (xnB x0 x2 s q) (mat2 x3) (row x4) (fun h t k => x6 (ix3 h t k)) (mat2 x7) (mat2 x8) t d)

theorem r_32_apply (r : Fin 512) (d : Fin 1024) :
    kernelRun0_A.sl.r_32 (F := Ideal) c arg2 harg2 arg4 harg4 arg5 harg5 arg6 harg6 arg8 harg8 arg9 harg9 arg10 harg10 arg16 arg17
      x0 x2 x3 x4 x6 x7 x8 (ix2 r d) = gateA x0 x2 x3 x4 x6 x7 x8 0 (rb r) (rt r) d := by
  unfold kernelRun0_A.sl.r_32 kernelRun0_A.sl.v4358 kernelRun0_A.sl.v4357
  simp only [View.readAt_eq_ld, harg5.read_unread, harg10.read_unread]
  pointwise [k0_pay874]
  simp only [v18_apply, v3805_apply, v3811_apply, v4356_apply]
  rfl

theorem r_38_apply (r : Fin 512) (d : Fin 1024) :
    kernelRun0_A.sl.r_38 (F := Ideal) c arg2 harg2 arg4 harg4 arg5 harg5 arg6 harg6 arg8 harg8 arg9 harg9 arg10 harg10 arg16 arg17
      x0 x2 x3 x4 x6 x7 x8 (ix2 r d) = gateA x0 x2 x3 x4 x6 x7 x8 1 (rb r) (rt r) d := by
  unfold kernelRun0_A.sl.r_38
  simp only [View.readAt_eq_ld, harg5.read_unread, harg10.read_unread]
  pointwise [k0_pay997]
  simp only [v1621_apply, r_33_apply, r_34_apply, v4915_apply]
  rfl

/-- The gated half of the scan's unit. -/
noncomputable def gateB (s : Fin 2) (q : Fin 4) (t : Fin 128) (d : Fin 1024) : EReal :=
  gateH (dot (xnB x0 x2 s q t) (mat2 x3) (col 5120 (by decide) d))
    (kYb (xnB x0 x2 s q) (yB x1 s q) (mat2 x3) (mat2 x9) (mat2 x10) t d)

theorem r_39_apply (r : Fin 512) (j : Fin 1024) : kernelRun0_A.sl.r_39 (F := Ideal) c arg3 harg3 arg11 harg11 arg18 x1 x9 (ix2 r j)
    = kPq (yB x1 0 (rb r)) (mat2 x9) (rt r) j := by
  rw [r_39_eq]
  exact glu_apply c arg3 harg3 arg11 harg11 arg18 x1 x9 0 r j

theorem v5484_apply (r : Fin 512) (j : Fin 1024) : kernelRun0_A.sl.v5484 (F := Ideal) c arg3 harg3 arg11 harg11 arg18 x1 x9 (ix2 r j)
    = kPq (yB x1 1 (rb r)) (mat2 x9) (rt r) j := by
  rw [v5484_eq]
  exact glu_apply c arg3 harg3 arg11 harg11 arg18 x1 x9 1 r j

theorem v4943_apply (r e : Fin 512) :
    kernelRun0_A.sl.v4943 (F := Ideal) c arg2 harg2 arg3 harg3 arg4 harg4 arg5 harg5 arg11 harg11 arg18 x0 x1 x2 x3 x9 (ix2 r e)
      = gateH (kPq (yB x1 0 (rb r)) (mat2 x9) (rt r) (pcol 512 (by decide) e)) (kPq (yB x1 0 (rb r)) (mat2 x9) (rt r) (pcol 0 (by decide) e))
        * kZb (xnB x0 x2 0 (rb r)) (mat2 x3) (rt r) e := by
  unfold kernelRun0_A.sl.v4943 kernelRun0_A.sl.v4942 kernelRun0_A.sl.v4941 kernelRun0_A.sl.v4940 kernelRun0_A.sl.v4939
    kernelRun0_A.sl.v4938 kernelRun0_A.sl.v4937 kernelRun0_A.sl.v4936 kernelRun0_A.sl.v4935 kernelRun0_A.sl.v4934
    kernelRun0_A.sl.v4933 kernelRun0_A.sl.r_40 kernelRun0_A.sl.cst_3742
  simp only [View.readAt_eq_ld, harg5.read_unread]
  pointwise []
  simp only [r_39_apply, v18_apply]
  unfold pcol
  simp only [Nat.zero_add]
  rfl

theorem v5496_apply (r e : Fin 512) :
    kernelRun0_A.sl.v5496 (F := Ideal) c arg2 harg2 arg3 harg3 arg4 harg4 arg5 harg5 arg11 harg11 arg18 x0 x1 x2 x3 x9 (ix2 r e)
      = gateH (kPq (yB x1 1 (rb r)) (mat2 x9) (rt r) (pcol 512 (by decide) e)) (kPq (yB x1 1 (rb r)) (mat2 x9) (rt r) (pcol 0 (by decide) e))
        * kZb (xnB x0 x2 1 (rb r)) (mat2 x3) (rt r) e := by
  unfold kernelRun0_A.sl.v5496 kernelRun0_A.sl.v5495 kernelRun0_A.sl.v5494 kernelRun0_A.sl.v5493 kernelRun0_A.sl.v5492
    kernelRun0_A.sl.v5491 kernelRun0_A.sl.v5490 kernelRun0_A.sl.v5489 kernelRun0_A.sl.v5488 kernelRun0_A.sl.v5487
    kernelRun0_A.sl.v5486 kernelRun0_A.sl.cst_3742
  simp only [View.readAt_eq_ld, harg5.read_unread]
  pointwise []
  simp only [v5484_apply, v1621_apply]
  unfold pcol
  simp only [Nat.zero_add]
  rfl

theorem v5481_apply (r : Fin 512) (d : Fin 1024) :
    kernelRun0_A.sl.v5481 (F := Ideal) c arg2 harg2 arg3 harg3 arg4 harg4 arg5 harg5 arg6 harg6 arg8 harg8 arg9 harg9 arg10 harg10
      arg11 harg11 arg12 harg12 arg16 arg17 arg18 x0 x1 x2 x3 x4 x6 x7 x8 x9 x10 (ix2 r d)
      = mergedB x0 x1 x2 x3 x4 x6 x7 x8 x9 x10 0 (rb r) (rt r) d := by
  unfold kernelRun0_A.sl.v5481 kernelRun0_A.sl.v5480 kernelRun0_A.sl.v5479 kernelRun0_A.sl.v5478 kernelRun0_A.sl.v5477
    kernelRun0_A.sl.v5476 kernelRun0_A.sl.v5474 kernelRun0_A.sl.v5473 kernelRun0_A.sl.r_43 kernelRun0_A.sl.cst_2334
  simp only [View.readAt_eq_ld, harg5.read_unread, harg12.read_unread]
  pointwise [k0_pay1116]
  simp only [r_32_apply, v18_apply, v4943_apply]
  rfl

theorem v5512_apply (r : Fin 512) (d : Fin 1024) :
    kernelRun0_A.sl.v5512 (F := Ideal) c arg2 harg2 arg3 harg3 arg4 harg4 arg5 harg5 arg6 harg6 arg8 harg8 arg9 harg9 arg10 harg10
      arg11 harg11 arg12 harg12 arg16 arg17 arg18 x0 x1 x2 x3 x4 x6 x7 x8 x9 x10 (ix2 r d)
      = mergedB x0 x1 x2 x3 x4 x6 x7 x8 x9 x10 1 (rb r) (rt r) d := by
  unfold kernelRun0_A.sl.v5512 kernelRun0_A.sl.v5511 kernelRun0_A.sl.v5510 kernelRun0_A.sl.v5509 kernelRun0_A.sl.v5508
    kernelRun0_A.sl.v5505 kernelRun0_A.sl.v5502 kernelRun0_A.sl.v5476 kernelRun0_A.sl.v5473 kernelRun0_A.sl.cst_2334
  simp only [View.readAt_eq_ld, harg5.read_unread, harg12.read_unread]
  pointwise []
  simp only [r_38_apply, v1621_apply, v5496_apply]
  rfl

/-- The block's result at batch `4 s + q`, position `t`, channel `d`. -/
noncomputable def outB (s : Fin 2) (q : Fin 4) (t : Fin 128) (d : Fin 1024) : EReal :=
  out (xB x0 s q t) (mergedB x0 x1 x2 x3 x4 x6 x7 x8 x9 x10 s q t) (mat2 x11) (row x12) d

theorem v5501_apply (r : Fin 512) (d : Fin 1024) :
    kernelRun0_A.sl.v5501 (F := Ideal) c arg2 harg2 arg3 harg3 arg4 harg4 arg5 harg5 arg6 harg6 arg8 harg8 arg9 harg9 arg10 harg10
      arg11 harg11 arg12 harg12 arg13 harg13 arg16 arg17 arg18 x0 x1 x2 x3 x4 x6 x7 x8 x9 x10 x11 (ix2 r d)
      = xB x0 0 (rb r) (rt r) d
        + dot (mergedB x0 x1 x2 x3 x4 x6 x7 x8 x9 x10 0 (rb r) (rt r)) (mat2 x11) d := by
  unfold kernelRun0_A.sl.v5501 kernelRun0_A.sl.v5500 kernelRun0_A.sl.v5499 kernelRun0_A.sl.v5497 kernelRun0_A.sl.cst_2334
  simp only [View.readAt_eq_ld, harg13.read_unread]
  pointwise []
  simp only [v1_apply, v5481_apply]
  rfl

theorem rb_mk (q : Fin 4) (t : Fin 128) (h : q.val * 128 + t.val < 512) : rb ⟨q.val * 128 + t.val, h⟩ = q :=
  Fin.ext (by show (q.val * 128 + t.val) / 128 = q.val; omega)

theorem rt_mk (q : Fin 4) (t : Fin 128) (h : q.val * 128 + t.val < 512) : rt ⟨q.val * 128 + t.val, h⟩ = t :=
  Fin.ext (by show (q.val * 128 + t.val) % 128 = t.val; omega)

theorem pay1_apply (q : Fin 4) (t : Fin 128) (d : Fin 1024) :
    k0_pay1 (kernelRun0_A.sl.v5501 (F := Ideal) c arg2 harg2 arg3 harg3 arg4 harg4 arg5 harg5 arg6 harg6 arg8 harg8 arg9 harg9 arg10
      harg10 arg11 harg11 arg12 harg12 arg13 harg13 arg16 arg17 arg18 x0 x1 x2 x3 x4 x6 x7 x8 x9 x10 x11)
      (kernelRun0_A.sl.r_44 (F := Ideal) c arg14 harg14 x12)
      (kernelRun0_A.sl.r_45 (F := Ideal) c arg2 harg2 arg3 harg3 arg4 harg4 arg5 harg5 arg6 harg6 arg8 harg8 arg9 harg9 arg10
      harg10 arg11 harg11 arg12 harg12 arg13 harg13 arg16 arg17 arg18 x0 x1 x2 x3 x4 x6 x7 x8 x9 x10 x11) (ix3 q t d)
      = outB x0 x1 x2 x3 x4 x6 x7 x8 x9 x10 x11 x12 0 q t d := by
  unfold kernelRun0_A.sl.r_44 kernelRun0_A.sl.r_45
  simp only [View.readAt_eq_ld, harg14.read_unread]
  pointwise [k0_pay1, k0_pay1119, k0_pay1120]
  simp only [v5501_apply, lit_1024, lit_eps, rb_mk, rt_mk]
  rfl

theorem pay2_apply (q : Fin 4) (t : Fin 128) (d : Fin 1024) (w : FVec Ideal S1024x1024 .bf16) (g : FVec Ideal S1x1024 .f32)
    (hw : w = x11) (hg : g = x12) :
    k0_pay2 (kernelRun0_A.sl.v3 (F := Ideal) c arg2 harg2 x0)
      (kernelRun0_A.sl.v5512 (F := Ideal) c arg2 harg2 arg3 harg3 arg4 harg4 arg5 harg5 arg6 harg6 arg8 harg8 arg9 harg9 arg10 harg10
      arg11 harg11 arg12 harg12 arg16 arg17 arg18 x0 x1 x2 x3 x4 x6 x7 x8 x9 x10) w g (ix3 q t d)
      = outB x0 x1 x2 x3 x4 x6 x7 x8 x9 x10 x11 x12 1 q t d := by
  subst hw hg
  pointwise [k0_pay2]
  simp only [v3_apply, v5512_apply, lit_1024, lit_eps, rb_mk, rt_mk]
  rfl

end Cert.Block
-- ==== Proof.BlockOut.lean ====
/- What one grid point leaves in the result's block. -/
module

public import proofs.«01_k».proof.Proof.BlockTail
public import proofs.«01_k».proof.Proof.Gen.KernelIdeal.Frame

@[expose] public section

set_option maxRecDepth 16384

namespace Cert.Block

open Cert.KernelIdeal Cert.KernelIdeal.Gen Cert.Chunk Cert.Args Idealize.ShloMosaic Idealize.ShloMosaic.TcCoe
  Idealize.ShloMosaic.Tactic

variable (x0 : Vec Ideal S8x128x1024 .f32) (x1 : Vec Ideal S32x64x256 .bf16) (x2 : Vec Ideal S1x1024 .f32)
  (x3 : Vec Ideal S1024x6144 .bf16) (x4 x5 : Vec Ideal S1x1024 .f32) (x6 : Vec Ideal S8x128x128 .bf16)
  (x7 : Vec Ideal S128x1024 .f32) (x8 : Vec Ideal S1024x1024 .bf16) (x9 x10 : Vec Ideal S512x1024 .bf16)
  (x11 : Vec Ideal S1024x1024 .bf16) (x12 : Vec Ideal S1x1024 .f32)

/-- The result's block: four batches a half. -/
noncomputable def outAt (y : S8x128x1024.Idx) : EReal :=
  outB x0 x1 x2 x3 x4 x6 x7 x8 x9 x10 x11 x12 ⟨(y 0).val / 4, by have : (y 0).val < 8 := (y 0).isLt; omega⟩
    ⟨(y 0).val % 4, by omega⟩ (y 1) (y 2)

/-- The four batches of half `s`. -/
def outRect (s : Fin 2) : Rect S8x128x1024 :=
  Rect.unit (s := S8x128x1024) ![4 * s, 0, 0] S4x128x1024.size
    (by intro a; fin_cases a <;> (simp [S4x128x1024, S8x128x1024] <;> omega))

theorem outRect_apply (s : Fin 2) (v : S4x128x1024.Idx → EReal)
    (hv : ∀ (q : Fin 4) (t : Fin 128) (d : Fin 1024), v (ix3 q t d) = outB x0 x1 x2 x3 x4 x6 x7 x8 x9 x10 x11 x12 s q t d)
    (x : (outRect s).shape.Idx) : v x = outAt x0 x1 x2 x3 x4 x6 x7 x8 x9 x10 x11 x12 ((outRect s).emb x) := by
  have h0 : (x (0 : Fin 3)).val < 4 := (x (0 : Fin 3)).isLt
  have e0 : (((outRect s).emb x (0 : Fin 3)) : ℕ) = 4 * s.val + (x (0 : Fin 3)).val := by
    show 4 * s.val + 1 * (x (0 : Fin 3)).val = _
    omega
  have e1 : (outRect s).emb x (1 : Fin 3) = x (1 : Fin 3) := Fin.ext (by
    show 0 + 1 * (x (1 : Fin 3)).val = (x (1 : Fin 3)).val
    omega)
  have e2 : (outRect s).emb x (2 : Fin 3) = x (2 : Fin 3) := Fin.ext (by
    show 0 + 1 * (x (2 : Fin 3)).val = (x (2 : Fin 3)).val
    omega)
  have hs : (⟨((outRect s).emb x (0 : Fin 3)).val / 4, by omega⟩ : Fin 2) = s := Fin.ext (by show _ / 4 = _; omega)
  have hq : (⟨((outRect s).emb x (0 : Fin 3)).val % 4, by omega⟩ : Fin 4) = x (0 : Fin 3) := Fin.ext (by show _ % 4 = _; omega)
  unfold outAt
  rw [hs, hq, e1, e2]
  refine (congrArg v (funext fun a => ?_)).trans (hv (x (0 : Fin 3)) (x (1 : Fin 3)) (x (2 : Fin 3)))
  fin_cases a <;> rfl

theorem mem_outRect (s : Fin 2) (y : S8x128x1024.Idx) (hy : (y 0).val / 4 = s.val) : y ∈ (outRect s).set :=
  Rect.mem_set_unit.2 fun a => by
    have h0 : (y 0).val < 8 := (y 0).isLt
    have h1 : (y 1).val < 128 := (y 1).isLt
    have h2 : (y 2).val < 1024 := (y 2).isLt
    fin_cases a
    · exact ⟨by show 4 * s.val ≤ (y 0).val; omega, by show (y 0).val < 4 * s.val + 4; omega⟩
    · exact ⟨Nat.zero_le _, by show (y 1).val < 0 + 128; omega⟩
    · exact ⟨Nat.zero_le _, by show (y 2).val < 0 + 1024; omega⟩

theorem canon_out (v0 v1 : S4x128x1024.Idx → EReal)
    (h0 : ∀ (q : Fin 4) (t : Fin 128) (d : Fin 1024), v0 (ix3 q t d) = outB x0 x1 x2 x3 x4 x6 x7 x8 x9 x10 x11 x12 0 q t d)
    (h1 : ∀ (q : Fin 4) (t : Fin 128) (d : Fin 1024), v1 (ix3 q t d) = outB x0 x1 x2 x3 x4 x6 x7 x8 x9 x10 x11 x12 1 q t d)
    (y : S8x128x1024.Idx) :
    View.canon (Val := Elt Ideal) (e := .f32) [⟨outRect 1, v1⟩, ⟨outRect 0, v0⟩] y
      = outAt x0 x1 x2 x3 x4 x6 x7 x8 x9 x10 x11 x12 y := by
  have hy : (y 0).val < 8 := (y 0).isLt
  refine View.canon_apply_of_pieces (Val := Elt Ideal) (e := .f32) (outAt x0 x1 x2 x3 x4 x6 x7 x8 x9 x10 x11 x12) _ ?_ y ?_
  · intro p hp
    rcases List.mem_cons.1 hp with rfl | hp
    · exact outRect_apply x0 x1 x2 x3 x4 x6 x7 x8 x9 x10 x11 x12 1 v1 h1
    · rcases List.mem_singleton.1 hp with rfl
      exact outRect_apply x0 x1 x2 x3 x4 x6 x7 x8 x9 x10 x11 x12 0 v0 h0
  · by_cases h : (y 0).val < 4
    · exact ⟨_, List.mem_cons.2 (.inr (List.mem_singleton.2 rfl)), mem_outRect 0 y (by show _ / 4 = 0; omega)⟩
    · exact ⟨_, List.mem_cons.2 (.inl rfl), mem_outRect 1 y (by show _ / 4 = 1; omega)⟩

theorem out_apply (c : Dev nD) (i : grid0.Coords)
    (arg2 : Memref sig .tc .vmem S8x128x1024 .f32) (harg2 : arg2.IsWhole) (arg3 : Memref sig .tc .vmem S32x64x256 .bf16) (harg3 : arg3.IsWhole)
    (arg4 : Memref sig .tc .vmem S1x1024 .f32) (harg4 : arg4.IsWhole) (arg5 : Memref sig .tc .vmem S1024x6144 .bf16) (harg5 : arg5.IsWhole)
    (arg6 : Memref sig .tc .vmem S1x1024 .f32) (harg6 : arg6.IsWhole) (arg7 : Memref sig .tc .vmem S1x1024 .f32) (harg7 : arg7.IsWhole)
    (arg8 : Memref sig .tc .vmem S8x128x128 .bf16) (harg8 : arg8.IsWhole) (arg9 : Memref sig .tc .vmem S128x1024 .f32) (harg9 : arg9.IsWhole)
    (arg10 : Memref sig .tc .vmem S1024x1024 .bf16) (harg10 : arg10.IsWhole) (arg11 : Memref sig .tc .vmem S512x1024 .bf16) (harg11 : arg11.IsWhole)
    (arg12 : Memref sig .tc .vmem S512x1024 .bf16) (harg12 : arg12.IsWhole) (arg13 : Memref sig .tc .vmem S1024x1024 .bf16) (harg13 : arg13.IsWhole)
    (arg14 : Memref sig .tc .vmem S1x1024 .f32) (harg14 : arg14.IsWhole) (arg15 : Memref sig .tc .vmem S8x128x1024 .f32) (harg15 : arg15.IsWhole)
    (arg16 : Memref sig .tc .vmem S2x512x1024 .bf16) (harg16 : arg16.IsWhole) (arg17 : Memref sig .tc .vmem S2x512x1024 .f32) (harg17 : arg17.IsWhole)
    (arg18 : Memref sig .tc .vmem S2x4x640x128 .f32) (harg18 : arg18.IsWhole) (y : S8x128x1024.Idx) :
    out0_A_13 (F := Ideal) c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18
      x0 x1 x2 x3 x4 x5 x6 x7 x8 x9 x10 x11 x12 y = outAt x0 x1 x2 x3 x4 x6 x7 x8 x9 x10 x11 x12 y := by
  unfold out0_A_13
  rw [View.read_writes_eq_canon _ _ _ (cover0_A_13 c i arg2 harg2 arg3 harg3 arg4 harg4 arg5 harg5 arg6 harg6 arg7 harg7 arg8
    harg8 arg9 harg9 arg10 harg10 arg11 harg11 arg12 harg12 arg13 harg13 arg14 harg14 arg15 harg15 arg16 harg16 arg17 harg17
    arg18 harg18 x0 x1 x2 x3 x4 x5 x6 x7 x8 x9 x10 x11 x12)]
  unfold kernelRun0_A
  refine canon_out x0 x1 x2 x3 x4 x6 x7 x8 x9 x10 x11 x12 _ _
    (pay1_apply c arg2 harg2 arg3 harg3 arg4 harg4 arg5 harg5 arg6 harg6 arg8 harg8 arg9 harg9 arg10 harg10 arg11 harg11 arg12
      harg12 arg13 harg13 arg14 harg14 arg16 arg17 arg18 x0 x1 x2 x3 x4 x6 x7 x8 x9 x10 x11 x12)
    (fun q t d => pay2_apply c arg2 harg2 arg3 harg3 arg4 harg4 arg5 harg5 arg6 harg6 arg8 harg8 arg9 harg9 arg10 harg10 arg11
      harg11 arg12 harg12 arg16 arg17 arg18 x0 x1 x2 x3 x4 x6 x7 x8 x9 x10 x11 x12 q t d _ _ ?_ ?_) y
  · simp only [View.readAt_eq_ld, harg13.read_unread]
    exact View.ld_unit_zero (S := S1024x1024) (funext fun a => by fin_cases a <;> rfl) _ _
  · simp only [View.readAt_eq_ld, harg14.read_unread]
    exact View.ld_unit_zero (S := S1x1024) (funext fun a => by fin_cases a <;> rfl) _ _

end Cert.Block
-- ==== Proof.HostPrep.lean ====
/- What the kernel's host operations hand the launch: each window's array, read at an index. -/
module

public import proofs.«01_k».proof.Proof.Args
public import proofs.«01_k».proof.Proof.Gen.KernelIdeal.Frame
public import Idealize.ShloMosaic.Lib.Pipeline.ValueKit
public import Idealize.ShloMosaic.Lib.StableHlo.ReadAt

@[expose] public section

set_option maxRecDepth 16384

namespace Cert.Host

open Cert.KernelIdeal Cert.KernelIdeal.Gen Cert.Chunk Cert.Args Idealize.ShloMosaic Idealize.ShloMosaic.TcCoe

variable (m : (ℓ : Loc nD τ sig) → Buf (Elt Ideal) ℓ) (c : Dev nD)

theorem v14_apply (d : Fin 1024) :
    (V m c main_v14 : S1x1024.Idx → EReal) (ix2 0 d) = m ((c : Thread nD τ).loc main_arg2) (ix2 0 d) := by
  unfold V hostOps0 hostOps0_1 hostOps0_2 hostOps0_3 hostOps0_4 hostOps0_5 hostOps0_6
  simp only [List.flatten_cons, List.flatten_nil, List.append_nil, List.cons_append, List.nil_append]
  after_reads_at

theorem v36_apply (d : Fin 1024) :
    (V m c main_v36 : S1x1024.Idx → EReal) (ix2 0 d) = m ((c : Thread nD τ).loc main_arg4) (ix2 0 d) := by
  unfold V hostOps0 hostOps0_1 hostOps0_2 hostOps0_3 hostOps0_4 hostOps0_5 hostOps0_6
  simp only [List.flatten_cons, List.flatten_nil, List.append_nil, List.cons_append, List.nil_append]
  after_reads_at

theorem v53_apply (d : Fin 1024) :
    (V m c main_v53 : S1x1024.Idx → EReal) (ix2 0 d) = m ((c : Thread nD τ).loc main_arg12) (ix1 d) := by
  unfold V hostOps0 hostOps0_1 hostOps0_2 hostOps0_3 hostOps0_4 hostOps0_5 hostOps0_6
  simp only [List.flatten_cons, List.flatten_nil, List.append_nil, List.cons_append, List.nil_append]
  after_reads_at

theorem v52_apply (d e : Fin 1024) :
    (V m c main_v52 : S1024x1024.Idx → EReal) (ix2 d e) = m ((c : Thread nD τ).loc main_arg11) (ix3 0 d e) := by
  unfold V hostOps0 hostOps0_1 hostOps0_2 hostOps0_3 hostOps0_4 hostOps0_5 hostOps0_6
  simp only [List.flatten_cons, List.flatten_nil, List.append_nil, List.cons_append, List.nil_append]
  after_reads_at

theorem v42_apply (d e : Fin 1024) :
    (V m c main_v42 : S1024x1024.Idx → EReal) (ix2 d e) = ((1/2:ℝ):EReal) * m ((c : Thread nD τ).loc main_arg8) (ix3 0 d e) := by
  unfold V hostOps0 hostOps0_1 hostOps0_2 hostOps0_3 hostOps0_4 hostOps0_5 hostOps0_6
  simp only [List.flatten_cons, List.flatten_nil, List.append_nil, List.cons_append, List.nil_append]
  after_reads_at
  exact congrArg (· * _) lit_half

theorem v46_apply (d : Fin 512) (e : Fin 1024) :
    (V m c main_v46 : S512x1024.Idx → EReal) (ix2 d e) = ((1/2:ℝ):EReal) * m ((c : Thread nD τ).loc main_arg9) (ix3 0 d e) := by
  unfold V hostOps0 hostOps0_1 hostOps0_2 hostOps0_3 hostOps0_4 hostOps0_5 hostOps0_6
  simp only [List.flatten_cons, List.flatten_nil, List.append_nil, List.cons_append, List.nil_append]
  after_reads_at
  exact congrArg (· * _) lit_half

theorem v50_apply (d : Fin 512) (e : Fin 1024) :
    (V m c main_v50 : S512x1024.Idx → EReal) (ix2 d e) = ((1/2:ℝ):EReal) * m ((c : Thread nD τ).loc main_arg10) (ix3 0 d e) := by
  unfold V hostOps0 hostOps0_1 hostOps0_2 hostOps0_3 hostOps0_4 hostOps0_5 hostOps0_6
  simp only [List.flatten_cons, List.flatten_nil, List.append_nil, List.cons_append, List.nil_append]
  after_reads_at
  exact congrArg (· * _) lit_half

/-- What the input projection's columns are scaled by: one on the scan's own columns, a half elsewhere. -/
noncomputable def colScale (j : Fin 6144) : EReal := if 3072 ≤ (j : ℕ) ∧ (j : ℕ) < 3584 then 1 else ((1 / 2 : ℝ) : EReal)

theorem lit_one : Ideal.ofBits .f32 0x3F800000#32 = 1 := by
  simp [Ideal.ofBits, Ideal.ieee, -EReal.coe_mul]; norm_num

theorem inside_bit : ∀ j : Fin 6144, IntOp.andi (IntOp.cmpi CmpIPredicate.sge (BitVec.ofNat 32 j) 3072#32)
    (IntOp.cmpi CmpIPredicate.slt (BitVec.ofNat 32 j) 3584#32) = if 3072 ≤ (j : ℕ) ∧ (j : ℕ) < 3584 then 1#1 else 0#1 := by
  decide +kernel

theorem v12_apply (d : Fin 1024) (j : Fin 6144) :
    (V m c main_v12 : S1024x6144.Idx → EReal) (ix2 d j) = mat (m ((c : Thread nD τ).loc main_arg3)) d j * colScale j := by
  unfold V hostOps0 hostOps0_1 hostOps0_2 hostOps0_3 hostOps0_4 hostOps0_5 hostOps0_6
  simp only [List.flatten_cons, List.flatten_nil, List.append_nil, List.cons_append, List.nil_append]
  after_reads_at
  refine congrArg (mat (m ((c : Thread nD τ).loc main_arg3)) d j * ·) ?_
  show Scalar.select (IntOp.andi (IntOp.cmpi CmpIPredicate.sge (BitVec.ofNat 32 j) 3072#32)
    (IntOp.cmpi CmpIPredicate.slt (BitVec.ofNat 32 j) 3584#32)) (Ideal.ofBits .f32 0x3F800000#32)
    (Ideal.ofBits .f32 0x3F000000#32) = colScale j
  rw [inside_bit, lit_one, lit_half]
  unfold colScale
  split_ifs <;> rfl

theorem causal_bit : ∀ t s : Fin 128, IntOp.cmpi CmpIPredicate.sge (IntOp.addi (BitVec.ofNat 32 t) 0#32) (BitVec.ofNat 32 s)
    = if s ≤ t then 1#1 else 0#1 := by decide +kernel

/-- The host's triangular selection, at an entry. -/
theorem causal_select (v : S1x8x128x128.Idx → EReal) (h : Fin 8) (t k : Fin 128) :
    Scalar.select (Scalar.select (IntOp.cmpi CmpIPredicate.sge (IntOp.addi (BitVec.ofNat 32 t) 0#32) (BitVec.ofNat 32 k)) 1#1 0#1)
      (v (ix4 0 h t k)) (FloatOps.sitofp (F := Ideal) FTy.f32 0#32 : EReal) = causal v h t k := by
  have h0 : (FloatOps.sitofp (F := Ideal) FTy.f32 0#32 : EReal) = 0 := by
    show (((0#32 : BitVec 32).toInt : ℝ) : EReal) = 0
    simp
  unfold causal
  rw [causal_bit, h0]
  split_ifs <;> rfl

theorem v20_apply (h : Fin 8) (t k : Fin 128) :
    (V m c main_v20 : S8x128x128.Idx → EReal) (ix3 h t k) = causal (m ((c : Thread nD τ).loc main_arg6)) h t k := by
  unfold V hostOps0 hostOps0_1 hostOps0_2 hostOps0_3 hostOps0_4 hostOps0_5 hostOps0_6
  simp only [List.flatten_cons, List.flatten_nil, List.append_nil, List.cons_append, List.nil_append]
  after_reads_at
  exact causal_select (m ((c : Thread nD τ).loc main_arg6)) h t k

theorem v34_apply (t : Fin 128) (a : Fin 1024) :
    (V m c main_v34 : S128x1024.Idx → EReal) (ix2 t a) = bias (m ((c : Thread nD τ).loc main_arg7)) (head a) t
      + (∑ s, causal (m ((c : Thread nD τ).loc main_arg6)) (head a) t s) * row (m ((c : Thread nD τ).loc main_arg5)) a := by
  unfold V hostOps0 hostOps0_1 hostOps0_2 hostOps0_3 hostOps0_4 hostOps0_5 hostOps0_6
  simp only [List.flatten_cons, List.flatten_nil, List.append_nil, List.cons_append, List.nil_append]
  after_reads_at
  refine congrArg (fun z => bias (m ((c : Thread nD τ).loc main_arg7)) (head a) t + z * row (m ((c : Thread nD τ).loc main_arg5)) a) ?_
  exact Finset.sum_congr rfl fun s _ => causal_select (m ((c : Thread nD τ).loc main_arg6)) (head a) t s

end Cert.Host
-- ==== Proof.Windows.lean ====
/- The blocks the kernel's windows read at a grid point, as entries of the arrays they are cut from. -/
module

public import proofs.«01_k».proof.Proof.BlockOut
public import proofs.«01_k».proof.Proof.HostPrep
public import Idealize.ShloMosaic.Lib.Pipeline.ValueKit

@[expose] public section

set_option maxRecDepth 16384

noncomputable section

namespace Cert.Windows

open Cert.KernelIdeal Cert.KernelIdeal.Gen Cert.Chunk Cert.Args Cert.Block Idealize.ShloMosaic Idealize.ShloMosaic.TcCoe

variable (m : (ℓ : Loc nD τ sig) → Buf (Elt Ideal) ℓ) (c : Dev nD) (t : Fin cfg0.N)

/-- The chunk of a grid point. -/
def ch (t : Fin cfg0.N) : Fin 16 := ⟨(grid0.coords t 0).val, (grid0.coords t 0).isLt⟩
/-- The group of eight batches of a grid point. -/
def bg (t : Fin cfg0.N) : Fin 4 := ⟨(grid0.coords t 1).val, (grid0.coords t 1).isLt⟩

theorem idx0 : ∀ t : Fin cfg0.N, win0_0.index t = ![(bg t).val, (ch t).val, 0] := by decide +kernel
theorem idx1 : ∀ t : Fin cfg0.N, win0_1.index t = ![0, 4 * (ch t).val + (bg t).val, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![0, 0] := by decide +kernel
theorem idx6 : ∀ t : Fin cfg0.N, win0_6.index t = ![0, 0, 0] := by decide +kernel
theorem idx7 : ∀ t : Fin cfg0.N, win0_7.index t = ![0, 0] := by decide +kernel
theorem idx8 : ∀ t : Fin cfg0.N, win0_8.index t = ![0, 0] := by decide +kernel
theorem idx9 : ∀ t : Fin cfg0.N, win0_9.index t = ![0, 0] := by decide +kernel
theorem idx10 : ∀ t : Fin cfg0.N, win0_10.index t = ![0, 0] := by decide +kernel
theorem idx11 : ∀ t : Fin cfg0.N, win0_11.index t = ![0, 0] := by decide +kernel
theorem idx12 : ∀ t : Fin cfg0.N, win0_12.index t = ![0, 0] := by decide +kernel
theorem idx13 : ∀ t : Fin cfg0.N, win0_13.index t = ![(bg t).val, (ch t).val, 0] := by decide +kernel

/-- The batch that row `b` of a grid point's block is. -/
def bat (t : Fin cfg0.N) (b : Fin 8) : Fin 32 := ⟨8 * (bg t).val + b.val, by have := (bg t).isLt; omega⟩

theorem blk0 (b : Fin 8) (p : Fin 128) (d : Fin 1024) : (iblk m c 0 t : S8x128x1024.Idx → EReal) (ix3 b p d)
    = m ((c : Thread nD τ).loc main_arg0) (ix3 (bat t b) (pos (ch t) p) d) := by
  blk_ext [iblk, V_main_arg0, idx0 t, bat, pos]

theorem blk1 (g : Fin 32) (r : Fin 64) (l : Fin 256) : (iblk m c 1 t : S32x64x256.Idx → EReal) (ix3 g r l)
    = m ((c : Thread nD τ).loc main_arg1) (ix3 g ⟨256 * (ch t).val + 64 * (bg t).val + r.val, by
        have := (ch t).isLt; have := (bg t).isLt; omega⟩ l) := by
  blk_ext [iblk, V_main_arg1, idx1 t]

theorem blk2 (d : Fin 1024) : (iblk m c 2 t : S1x1024.Idx → EReal) (ix2 0 d)
    = (V m c main_v14 : S1x1024.Idx → EReal) (ix2 0 d) := by
  blk_ext [iblk, idx2 t]

theorem blk3 (d : Fin 1024) (j : Fin 6144) : (iblk m c 3 t : S1024x6144.Idx → EReal) (ix2 d j)
    = (V m c main_v12 : S1024x6144.Idx → EReal) (ix2 d j) := by
  blk_ext [iblk, idx3 t]

theorem blk4 (d : Fin 1024) : (iblk m c 4 t : S1x1024.Idx → EReal) (ix2 0 d)
    = (V m c main_v36 : S1x1024.Idx → EReal) (ix2 0 d) := by
  blk_ext [iblk, idx4 t]

theorem blk6 (h : Fin 8) (p k : Fin 128) : (iblk m c 6 t : S8x128x128.Idx → EReal) (ix3 h p k)
    = (V m c main_v20 : S8x128x128.Idx → EReal) (ix3 h p k) := by
  blk_ext [iblk, idx6 t]

theorem blk7 (p : Fin 128) (a : Fin 1024) : (iblk m c 7 t : S128x1024.Idx → EReal) (ix2 p a)
    = (V m c main_v34 : S128x1024.Idx → EReal) (ix2 p a) := by
  blk_ext [iblk, idx7 t]

theorem blk8 (k j : Fin 1024) : (iblk m c 8 t : S1024x1024.Idx → EReal) (ix2 k j)
    = (V m c main_v42 : S1024x1024.Idx → EReal) (ix2 k j) := by
  blk_ext [iblk, idx8 t]

theorem blk9 (k : Fin 512) (j : Fin 1024) : (iblk m c 9 t : S512x1024.Idx → EReal) (ix2 k j)
    = (V m c main_v46 : S512x1024.Idx → EReal) (ix2 k j) := by
  blk_ext [iblk, idx9 t]

theorem blk10 (k : Fin 512) (j : Fin 1024) : (iblk m c 10 t : S512x1024.Idx → EReal) (ix2 k j)
    = (V m c main_v50 : S512x1024.Idx → EReal) (ix2 k j) := by
  blk_ext [iblk, idx10 t]

theorem blk11 (k j : Fin 1024) : (iblk m c 11 t : S1024x1024.Idx → EReal) (ix2 k j)
    = (V m c main_v52 : S1024x1024.Idx → EReal) (ix2 k j) := by
  blk_ext [iblk, idx11 t]

theorem blk12 (d : Fin 1024) : (iblk m c 12 t : S1x1024.Idx → EReal) (ix2 0 d)
    = (V m c main_v53 : S1x1024.Idx → EReal) (ix2 0 d) := by
  blk_ext [iblk, idx12 t]

end Cert.Windows

end
-- ==== Proof.RefVal.lean ====
/- What the reference computes, row by row: its stages at a position of a chunk are the functions of `Chunk` on the
   arguments' rows. -/
module

public import proofs.«01_k».proof.Proof.Gen.ReferenceIdeal.Read
public import proofs.«01_k».proof.Proof.Args

@[expose] public section

noncomputable section

namespace Cert.RefVal

open Cert.ReferenceIdeal Cert.ReferenceIdeal.Gen Cert.ReferenceIdeal.Read Cert.Chunk Cert.Args Idealize.ShloMosaic
  Idealize.ShloMosaic.TcCoe

variable (x0 : (⟨S32x2048x1024, .f32⟩ : BufTy).Contents (Elt Ideal)) (x1 : (⟨S32x4096x256, .bf16⟩ : BufTy).Contents (Elt Ideal))
  (x2 : (⟨S1x1024, .f32⟩ : BufTy).Contents (Elt Ideal)) (x3 : (⟨S1x1024x6144, .f32⟩ : BufTy).Contents (Elt Ideal))
  (x4 x5 : (⟨S1x1024, .f32⟩ : BufTy).Contents (Elt Ideal)) (x6 : (⟨S1x8x128x128, .f32⟩ : BufTy).Contents (Elt Ideal))
  (x7 : (⟨S1x8x128, .f32⟩ : BufTy).Contents (Elt Ideal)) (x8 : (⟨S1x1024x1024, .f32⟩ : BufTy).Contents (Elt Ideal))
  (x9 x10 : (⟨S1x512x1024, .f32⟩ : BufTy).Contents (Elt Ideal)) (x11 : (⟨S1x1024x1024, .f32⟩ : BufTy).Contents (Elt Ideal))
  (x12 : (⟨S1024, .f32⟩ : BufTy).Contents (Elt Ideal)) (b : Fin 32) (c : Fin 16) (t : Fin 128)

theorem xn_apply (d : Fin 1024) : val_main_v19 (F := Ideal) x0 x2 (ix3 b (pos c t) d) = xnRow x0 x2 b c t d := by
  pointwise [val_main_v19, val_main_v18, val_main_v17, val_main_v16, val_main_v15, val_main_v14, val_main_v13,
    val_main_v12, val_main_v11, val_main_v10, val_main_v9, val_main_v8, val_main_v7, val_main_v6, val_main_cst_0,
    val_main_cst_1, val_main_cst_2]
  rw [lit_1024, lit_eps]; rfl

theorem proj_apply (j : Fin 6144) :
    val_main_v21 (F := Ideal) x0 x2 x3 (ix3 b (pos c t) j) = dot (xnRow x0 x2 b c t) (mat x3) j := by
  pointwise [val_main_v21, val_main_v20]
  simp only [xn_apply]; rfl

/-- The reference's gelu of a stage is `gelu` of it, at an index. -/
theorem u_apply (a : Fin 1024) : val_main_v41 (F := Ideal) x0 x2 x3 (ix3 b (pos c t) a) = rU (xnRow x0 x2 b c) (mat x3) t a := by
  pointwise [val_main_v41, val_main_v40, val_main_v39, val_main_v38, val_main_v37, val_main_v36, val_main_v35,
    val_main_v34, val_main_v33, val_main_v32, val_main_v31, val_main_v30, val_main_v29, val_main_v22, val_main_cst_3,
    val_main_cst_4, val_main_cst_5, val_main_cst_6]
  simp only [proj_apply, lit_cG, lit_kG, lit_half]
  unfold rU gelu
  simp only [col, Nat.zero_add]

theorem v_apply (a : Fin 1024) : val_main_v54 (F := Ideal) x0 x2 x3 (ix3 b (pos c t) a) = rV (xnRow x0 x2 b c) (mat x3) t a := by
  pointwise [val_main_v54, val_main_v53, val_main_v52, val_main_v51, val_main_v50, val_main_v49, val_main_v48,
    val_main_v47, val_main_v46, val_main_v45, val_main_v44, val_main_v43, val_main_v42, val_main_v23, val_main_cst_7,
    val_main_cst_8, val_main_cst_9, val_main_cst_10]
  simp only [proj_apply, lit_cG, lit_kG, lit_half]
  rfl

theorem vn_apply (a : Fin 1024) : val_main_v80 (F := Ideal) x0 x2 x3 x4 x5 (ix3 b (pos c t) a)
    = rVn (xnRow x0 x2 b c) (mat x3) (row x4) (row x5) t a := by
  pointwise [val_main_v80, val_main_v79, val_main_v78, val_main_v77, val_main_v76, val_main_v75, val_main_v74,
    val_main_v73, val_main_v72, val_main_v71, val_main_v70, val_main_v69, val_main_v68, val_main_v67, val_main_v66,
    val_main_v65, val_main_v64, val_main_v63, val_main_v62, val_main_v61, val_main_v60, val_main_v59, val_main_v56,
    val_main_v55, val_main_cst_11, val_main_cst_12, val_main_cst_13, val_main_cst_14, val_main_cst_15]
  simp only [v_apply, lit_1024, lit_eps]
  rfl

/-- The comparison of two positions of a chunk, as words. -/
theorem causal_bit : ∀ t s : Fin 128, IntOp.cmpi CmpIPredicate.sge (IntOp.addi (BitVec.ofNat 32 ↑t) 0#32) (BitVec.ofNat 32 ↑s)
    = if s ≤ t then 1#1 else 0#1 := by decide +kernel

theorem causal_apply (h : Fin 8) (t s : Fin 128) : val_main_v85 (F := Ideal) x6 (ix3 h t s) = causal x6 h t s := by
  pointwise [val_main_v85, val_main_v84, val_main_v83, val_main_v82, val_main_v57, val_main_c, val_main_c_16,
    val_main_call0_v0, val_main_call0_c, val_main_call0_v1, val_main_call0_v2, val_main_call0_v3, val_main_call0_v4,
    val_main_call0_c_0, val_main_call0_v5, val_main_call1_v0, val_main_call1_v1, val_main_call1_v2]
  have h0 : FloatOps.sitofp (F := Ideal) FTy.f32 0#32 = (0 : EReal) := by
    show ((((0#32 : BitVec 32).toInt : ℤ) : ℝ) : EReal) = 0
    simp
  unfold causal
  rw [causal_bit, h0]
  split <;> rfl

theorem mix_apply (a : Fin 1024) : val_main_v93 (F := Ideal) x0 x2 x3 x4 x5 x6 x7 (ix3 b (pos c t) a)
    = rMix (xnRow x0 x2 b c) (mat x3) (row x4) (row x5) (causal x6) (bias x7) t a := by
  pointwise [val_main_v93, val_main_v92, val_main_v91, val_main_v90, val_main_v89, val_main_v88, val_main_v87, val_main_v86,
    val_main_v58, val_main_v81]
  have e1 : ∀ (x : Fin 128) h, (⟨↑(pos c t) / 128 * 128 + ↑x, h⟩ : Fin 2048) = pos c x := fun x h =>
    Fin.ext (by have := t.isLt; simp only [pos]; omega)
  have e2 : ∀ h, (⟨↑(pos c t) % 128, h⟩ : Fin 128) = t := fun h => Fin.ext (by have := t.isLt; simp only [pos]; omega)
  simp only [e1, e2, vn_apply, causal_apply]
  rfl

theorem za_apply (a : Fin 1024) : val_main_v95 (F := Ideal) x0 x2 x3 (ix3 b (pos c t) a)
    = rZa (xnRow x0 x2 b c) (mat x3) t a := by
  pointwise [val_main_v95, val_main_call2_v0, val_main_call2_v1, val_main_call2_cst, val_main_call2_v2, val_main_call2_v3,
    val_main_call2_cst_0, val_main_call2_v4, val_main_call2_v5, val_main_v24]
  simp only [proj_apply]
  rfl

theorem ya_apply (d : Fin 1024) : val_main_v98 (F := Ideal) x0 x2 x3 x4 x5 x6 x7 x8 (ix3 b (pos c t) d)
    = rYa (xnRow x0 x2 b c) (mat x3) (row x4) (row x5) (causal x6) (bias x7) (mat x8) t d := by
  pointwise [val_main_v98, val_main_v97, val_main_v96, val_main_v94]
  simp only [u_apply, mix_apply, za_apply]
  rfl

theorem y_apply (e : Fin 512) : val_main_v5 (F := Ideal) x1 (ix3 b (pos c t) e)
    = ((2 : ℝ) : EReal) * yRow x1 b c t e := by
  pointwise [val_main_v5, val_main_v4, val_main_v3, val_main_v2, val_main_v1, val_main_v0, val_main_cst]
  rw [lit_two]
  have e1 : ∀ h, (⟨↑(pos c t) / 128 * 256 + ↑b * 8 + ↑(pos c t) / 16 % 8, h⟩ : Fin 4096)
      = ⟨c * 256 + b * 8 + t / 16, by have := c.isLt; have := b.isLt; have := t.isLt; omega⟩ := fun h =>
    Fin.ext (by have := t.isLt; simp only [pos]; omega)
  have e2 : ∀ h, (⟨↑(pos c t) % 16 * 16 + ↑e % 16, h⟩ : Fin 256) = ⟨t % 16 * 16 + e % 16, by omega⟩ := fun h =>
    Fin.ext (by have := t.isLt; simp only [pos]; omega)
  simp only [e1, e2]
  rfl

theorem pq_apply (j : Fin 1024) : val_main_v113 (F := Ideal) x1 x9 (ix3 b (pos c t) j)
    = rPq (yRow x1 b c) (mat x9) t j := by
  pointwise [val_main_v113, val_main_v112, val_main_v111, val_main_v110, val_main_v109, val_main_v108, val_main_v107,
    val_main_v106, val_main_v105, val_main_v104, val_main_v103, val_main_v102, val_main_v101, val_main_v100,
    val_main_v99, val_main_cst_17, val_main_cst_18, val_main_cst_19, val_main_cst_20]
  simp only [y_apply, lit_cG, lit_kG, lit_half]
  rfl

theorem zb_apply (e : Fin 512) : val_main_v123 (F := Ideal) x0 x2 x3 (ix3 b (pos c t) e)
    = rZb (xnRow x0 x2 b c) (mat x3) t e := by
  pointwise [val_main_v123, val_main_call3_v0, val_main_call3_v1, val_main_call3_cst, val_main_call3_v2, val_main_call3_v3,
    val_main_call3_cst_0, val_main_call3_v4, val_main_call3_v5, val_main_v26]
  simp only [proj_apply]
  rfl

theorem yb_apply (d : Fin 1024) : val_main_v126 (F := Ideal) x0 x1 x2 x3 x9 x10 (ix3 b (pos c t) d)
    = rYb (xnRow x0 x2 b c) (yRow x1 b c) (mat x3) (mat x9) (mat x10) t d := by
  pointwise [val_main_v126, val_main_v125, val_main_v124, val_main_v122, val_main_v121, val_main_v120, val_main_v119,
    val_main_v118, val_main_v117, val_main_v116, val_main_v115, val_main_v114, val_main_cst_21, val_main_cst_22]
  simp only [pq_apply, zb_apply]
  unfold rYb dot sigm
  simp only [pcol, Nat.zero_add]
  rfl

theorem merged_apply (d : Fin 1024) : val_main_v141 (F := Ideal) x0 x1 x2 x3 x4 x5 x6 x7 x8 x9 x10 (ix3 b (pos c t) d)
    = rMerged (xnRow x0 x2 b c) (yRow x1 b c) (mat x3) (row x4) (row x5) (causal x6) (bias x7) (mat x8) (mat x9) (mat x10) t d := by
  pointwise [val_main_v141, val_main_v140, val_main_v139, val_main_v138, val_main_v137, val_main_v136, val_main_v135,
    val_main_v134, val_main_v133, val_main_v132, val_main_v131, val_main_v130, val_main_v129, val_main_v128,
    val_main_v127, val_main_v28, val_main_v27, val_main_cst_23, val_main_cst_24, val_main_cst_25, val_main_cst_26]
  simp only [proj_apply, ya_apply, yb_apply]
  unfold rMerged sigm
  rfl

/-- The reference's result at position `t` of chunk `c` of batch `b`. -/
theorem result_apply (d : Fin 1024) :
    val_main_v157 (F := Ideal) x0 x1 x2 x3 x4 x5 x6 x7 x8 x9 x10 x11 x12 (ix3 b (pos c t) d)
    = out (xRow x0 b c t) (rMerged (xnRow x0 x2 b c) (yRow x1 b c) (mat x3) (row x4) (row x5) (causal x6) (bias x7)
        (mat x8) (mat x9) (mat x10) t) (mat x11) (fun k => x12 (ix1 k)) d := by
  pointwise [val_main_v157, val_main_v156, val_main_v155, val_main_v154, val_main_v153, val_main_v152, val_main_v151,
    val_main_v150, val_main_v149, val_main_v148, val_main_v147, val_main_v146, val_main_v145, val_main_v144,
    val_main_v143, val_main_v142, val_main_cst_27, val_main_cst_28, val_main_cst_29]
  simp only [merged_apply, lit_1024, lit_eps]
  rfl

end Cert.RefVal

end
-- ==== Proof.Finite.lean ====
/- What the precondition says of an argument: none of its values is infinite, so each is a real number. -/
module

public import proofs.«01_k».proof.Defs
public import proofs.«01_k».proof.Proof.Gen.Pre_finite
public import proofs.«01_k».proof.Proof.Chunk

@[expose] public section

noncomputable section

namespace Cert.Finite

open Cert.Pre_finite Cert.Pre_finite.Gen Cert.Chunk Idealize.ShloMosaic Idealize.ShloMosaic.TcCoe

theorem lit_top : Ideal.ofBits .f32 0x7F800000#32 = ⊤ := by
  simp [Ideal.ofBits, Ideal.ieee]

theorem isR_of_ne {x : EReal} (h1 : x ≠ ⊤) (h2 : x ≠ ⊥) : IsR x := ⟨x.toReal, (EReal.coe_toReal h1 h2).symm⟩

/-- A value below plus infinity and above minus infinity is a real number. -/
theorem isR_of_bits (x : EReal)
    (h : IntOp.andi (FloatOps.cmpf (F := Ideal) (φ := .f32) .olt x (Ideal.ofBits .f32 0x7F800000#32))
      (FloatOps.cmpf (F := Ideal) (φ := .f32) .ogt x (-(Ideal.ofBits .f32 0x7F800000#32))) = 1#1) : IsR x := by
  rw [lit_top] at h
  refine isR_of_ne ?_ ?_
  · rintro rfl
    revert h
    simp [FloatOps.cmpf, Ideal.cmp, IntOp.andi]
  · rintro rfl
    revert h
    simp [FloatOps.cmpf, Ideal.cmp, IntOp.andi]

/-- The same of a whole array's comparisons. -/
theorem isR_of_fin {S : Shape} (hb : S_.BroadcastsInDim S (![] : Fin 0 → Fin S.rank)) (a : FVec Ideal S .f32)
    (h : andi (cmpf .olt a (broadcastInDim S ![] hb (constant S_ .f32 0x7F800000#32)))
      (cmpf .ogt a (broadcastInDim S ![] hb (Host.negf (constant S_ .f32 0x7F800000#32)))) = fun _ => 1#1) (i : S.Idx) :
    IsR (a i) := isR_of_bits (a i) (congrFun h i)

variable (m : (ℓ : Loc Cert.KernelIdeal.nD Cert.KernelIdeal.τ Cert.KernelIdeal.sig) → Buf (Elt Ideal) ℓ)

/-- The arguments of one device that the precondition names hold real numbers. -/
structure Reals (c : Dev Cert.KernelIdeal.nD) : Prop where
  a1 : ∀ i, IsR (m ((c : Thread Cert.KernelIdeal.nD Cert.KernelIdeal.τ).loc Cert.KernelIdeal.main_arg1) i)
  a2 : ∀ i, IsR (m ((c : Thread Cert.KernelIdeal.nD Cert.KernelIdeal.τ).loc Cert.KernelIdeal.main_arg2) i)
  a3 : ∀ i, IsR (m ((c : Thread Cert.KernelIdeal.nD Cert.KernelIdeal.τ).loc Cert.KernelIdeal.main_arg3) i)
  a4 : ∀ i, IsR (m ((c : Thread Cert.KernelIdeal.nD Cert.KernelIdeal.τ).loc Cert.KernelIdeal.main_arg4) i)
  a5 : ∀ i, IsR (m ((c : Thread Cert.KernelIdeal.nD Cert.KernelIdeal.τ).loc Cert.KernelIdeal.main_arg5) i)
  a6 : ∀ i, IsR (m ((c : Thread Cert.KernelIdeal.nD Cert.KernelIdeal.τ).loc Cert.KernelIdeal.main_arg6) i)
  a7 : ∀ i, IsR (m ((c : Thread Cert.KernelIdeal.nD Cert.KernelIdeal.τ).loc Cert.KernelIdeal.main_arg7) i)
  a8 : ∀ i, IsR (m ((c : Thread Cert.KernelIdeal.nD Cert.KernelIdeal.τ).loc Cert.KernelIdeal.main_arg8) i)
  a9 : ∀ i, IsR (m ((c : Thread Cert.KernelIdeal.nD Cert.KernelIdeal.τ).loc Cert.KernelIdeal.main_arg9) i)
  a10 : ∀ i, IsR (m ((c : Thread Cert.KernelIdeal.nD Cert.KernelIdeal.τ).loc Cert.KernelIdeal.main_arg10) i)

theorem reals (h : Cert.Pre_KernelIdeal_finite m) (c : Dev Cert.KernelIdeal.nD) : Reals m c := by
  obtain ⟨h1, h2, h3, h4, h5, h6, h7, h8, h9, h10⟩ := h c
  exact ⟨isR_of_fin bcast_S_S32x4096x256 _ h1, isR_of_fin bcast_S_S1x1024 _ h2, isR_of_fin bcast_S_S1x1024x6144 _ h3,
    isR_of_fin bcast_S_S1x1024 _ h4, isR_of_fin bcast_S_S1x1024 _ h5, isR_of_fin bcast_S_S1x8x128x128 _ h6,
    isR_of_fin bcast_S_S1x8x128 _ h7, isR_of_fin bcast_S_S1x1024x1024 _ h8, isR_of_fin bcast_S_S1x512x1024 _ h9,
    isR_of_fin bcast_S_S1x512x1024 _ h10⟩

end Cert.Finite

end
-- ==== Proof.Result.lean ====
/- The kernel's result: every block it writes is the reference's result there, so its whole output array is. -/
module

public import proofs.«01_k».proof.Proof.Windows
public import proofs.«01_k».proof.Proof.RefVal
public import proofs.«01_k».proof.Proof.Finite

@[expose] public section

set_option maxRecDepth 16384

noncomputable section

namespace Cert.Result

open Cert.KernelIdeal Cert.KernelIdeal.Gen Cert.Chunk Cert.Args Cert.Block Cert.Windows Cert.Host Cert.Finite
  Idealize.ShloMosaic Idealize.ShloMosaic.TcCoe

variable (m : (ℓ : Loc nD τ sig) → Buf (Elt Ideal) ℓ) (c : Dev nD) (t : Fin cfg0.N)

/-- The reference's result on a device's arguments. -/
abbrev want : S32x2048x1024.Idx → EReal :=
  Cert.ReferenceIdeal.Read.val_main_v157 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12))

/-- The row of the block that batch `q` of half `s` is. -/
def hb (s : Fin 2) (q : Fin 4) : Fin 8 := ⟨4 * s + q, by omega⟩

variable (s : Fin 2) (q : Fin 4)

theorem x_block : xB (iblk m c 0 t) s q = xRow (m ((c : Thread nD τ).loc main_arg0)) (bat t (hb s q)) (ch t) :=
  funext fun p => funext fun d => blk0 m c t (hb s q) p d

theorem g_block : row (iblk m c 2 t) = row (m ((c : Thread nD τ).loc main_arg2)) :=
  funext fun d => (blk2 m c t d).trans (v14_apply m c d)

theorem xn_block : xnB (iblk m c 0 t) (iblk m c 2 t) s q
    = xnRow (m ((c : Thread nD τ).loc main_arg0)) (m ((c : Thread nD τ).loc main_arg2)) (bat t (hb s q)) (ch t) :=
  funext fun p => congrArg₂ rms (congrFun (x_block m c t s q) p) (g_block m c t)

theorem y_block : yB (iblk m c 1 t) s q = yRow (m ((c : Thread nD τ).loc main_arg1)) (bat t (hb s q)) (ch t) :=
  funext fun p => funext fun e => (blk1 m c t _ _ _).trans (congrArg (m ((c : Thread nD τ).loc main_arg1))
    (congrArg₂ (ix3 _) (Fin.ext (by simp only [bat, hb]; omega)) (Fin.ext (by simp only []; omega))))

theorem lg_block : row (iblk m c 4 t) = row (m ((c : Thread nD τ).loc main_arg4)) :=
  funext fun d => (blk4 m c t d).trans (v36_apply m c d)

theorem ws_block : (fun h p k => (iblk m c 6 t : S8x128x128.Idx → EReal) (ix3 h p k)) = causal (m ((c : Thread nD τ).loc main_arg6)) :=
  funext fun h => funext fun p => funext fun k => (blk6 m c t h p k).trans (v20_apply m c h p k)

theorem wo_block : mat2 (iblk m c 11 t) = mat (m ((c : Thread nD τ).loc main_arg11)) :=
  funext fun k => funext fun j => (blk11 m c t k j).trans (v52_apply m c k j)

theorem fg_block : row (iblk m c 12 t) = fun d => m ((c : Thread nD τ).loc main_arg12) (ix1 d) :=
  funext fun d => (blk12 m c t d).trans (v53_apply m c d)

/-- The merged mixers of a block are the reference's, the arguments being real numbers. -/
theorem merged_block (R : Reals m c) :
    mergedB (iblk m c 0 t) (iblk m c 1 t) (iblk m c 2 t) (iblk m c 3 t) (iblk m c 4 t) (iblk m c 6 t) (iblk m c 7 t)
        (iblk m c 8 t) (iblk m c 9 t) (iblk m c 10 t) s q
      = rMerged (xnRow (m ((c : Thread nD τ).loc main_arg0)) (m ((c : Thread nD τ).loc main_arg2)) (bat t (hb s q)) (ch t))
          (yRow (m ((c : Thread nD τ).loc main_arg1)) (bat t (hb s q)) (ch t)) (mat (m ((c : Thread nD τ).loc main_arg3)))
          (row (m ((c : Thread nD τ).loc main_arg4))) (row (m ((c : Thread nD τ).loc main_arg5)))
          (causal (m ((c : Thread nD τ).loc main_arg6))) (bias (m ((c : Thread nD τ).loc main_arg7)))
          (mat (m ((c : Thread nD τ).loc main_arg8))) (mat (m ((c : Thread nD τ).loc main_arg9)))
          (mat (m ((c : Thread nD τ).loc main_arg10))) := by
  unfold mergedB
  rw [xn_block, y_block, lg_block, ws_block]
  refine merged_eq (fun p d => isR_rms _ (fun k => R.a2 _) d) (fun p e => R.a1 _) (fun d j => R.a3 _) (fun a => R.a4 _)
    (fun a => R.a5 _) (fun h p k => ?_) (fun h p => R.a7 _) (fun a d => R.a8 _) (fun e j => R.a9 _) (fun e d => R.a10 _)
    (fun d j hj => ?_) (fun a d => (blk8 m c t a d).trans (v42_apply m c a d))
    (fun e j => (blk9 m c t e j).trans (v46_apply m c e j)) (fun e d => (blk10 m c t e d).trans (v50_apply m c e d))
    (fun p a => (blk7 m c t p a).trans (v34_apply m c p a))
  · unfold causal
    split
    · exact R.a6 _
    · exact ⟨0, rfl⟩
  · refine (blk3 m c t d j).trans ((v12_apply m c d j).trans ?_)
    unfold colScale
    rw [if_neg (by omega), mul_comm]

theorem block_eq (R : Reals m c) (p : Fin 128) (d : Fin 1024) :
    outB (iblk m c 0 t) (iblk m c 1 t) (iblk m c 2 t) (iblk m c 3 t) (iblk m c 4 t) (iblk m c 6 t) (iblk m c 7 t)
        (iblk m c 8 t) (iblk m c 9 t) (iblk m c 10 t) (iblk m c 11 t) (iblk m c 12 t) s q p d
      = want m c (ix3 (bat t (hb s q)) (pos (ch t) p) d) := by
  unfold want
  rw [Cert.RefVal.result_apply]
  unfold outB
  rw [merged_block m c t s q R, x_block, wo_block, fg_block]

/-- Where a block's entry lies in the output array. -/
theorem emb13 (y : S8x128x1024.Idx) : ((cfg0.win 13).blk t).view.emb y = ix3 (bat t (y 0)) (pos (ch t) (y 1)) (y 2) := by
  refine funext fun a => Fin.ext ?_
  fin_cases a <;> blk_simp [idx13 t, bat, pos] <;> simp [bat, pos, mul_comm]

theorem outs_apply (R : Reals m c) (y : S8x128x1024.Idx) :
    outsAt0 m c t y = want m c (ix3 (bat t (y 0)) (pos (ch t) (y 1)) (y 2)) := by
  unfold outsAt0
  rw [out_apply]
  unfold outAt
  refine (block_eq m c t _ _ R _ _).trans ?_
  refine congrArg (fun b => want m c (ix3 (bat t b) (pos (ch t) (y 1)) (y 2))) (Fin.ext ?_)
  simp only [hb]
  omega

/-- The output array after the run is the reference's result. -/
theorem result_eq (R : Reals m c) : (dats m 0 c).arrAt 13 cfg0.N = want m c := by
  refine (dats m 0 c).arrAt_eq_of_covers 13 _ (by decide +kernel) fun t hf y => ?_
  blk_simp
  rw [after0_13]
  exact (outs_apply m c t R y).trans (congrArg (want m c) (emb13 t y).symm)

end Cert.Result

end
-- ==== Proof.InScratch.lean ====
/- The second call's scratch: the projected rows of a block's four quarters, sixteen rows of 128 columns a store, and the
   rows read back from it sixteen apart. -/
module

public import proofs.«01_k».proof.Proof.Gen.Kernel2Ideal.Value
public import proofs.«01_k».proof.Proof.Args
public import Idealize.ShloMosaic.Lib.Pipeline.ReadBack

@[expose] public section

set_option maxRecDepth 16384

namespace Cert.InBlock

open Cert.Kernel2Ideal Cert.Kernel2Ideal.Gen Cert.Chunk Cert.Args Idealize.ShloMosaic Idealize.ShloMosaic.TcCoe
  Idealize.ShloMosaic.Tactic

variable (c : Dev nD)
  (arg2 : Memref sig .tc .vmem S16x128x1024 .f32) (harg2 : arg2.IsWhole) (arg3 : Memref sig .tc .vmem S1x1024 .f32) (harg3 : arg3.IsWhole)
  (arg4 : Memref sig .tc .vmem S1024x512 .bf16) (harg4 : arg4.IsWhole) (arg7 : Memref sig .tc .vmem S4x4x768x128 .f32)
  (x0 : Vec Ideal S16x128x1024 .f32) (x1 : Vec Ideal S1x1024 .f32) (x2 : Vec Ideal S1024x512 .bf16)

/-! ## The projected rows -/

/-- The rows of four batches, normed. -/
noncomputable def normed (v : FVec Ideal S512x1024 .f32) (g : FVec Ideal S1x1024 .f32) : FVec Ideal S512x1024 .bf16 :=
  truncf .bf16 (mulf (mulf v (broadcastTo S512x1024 (rsqrt (addf (divf (shapeCast S512x1
    (multiReduction .add [1] S512 (mulf v v) 0x00000000#32 reduces_S512x1024_S512 (.inl rfl) rfl) shapeCasts_S512_S512x1)
    (broadcast S512x1 (Scalar.ofBits .f32 0x44800000#32))) (broadcast S512x1 (Scalar.ofBits .f32 0x358637BD#32))))
    broadcasts_S512x1_S512x1024)) (broadcastTo S512x1024 (shapeCast S1x1024 g shapeCasts_S1x1024_S1x1024)
    broadcasts_S1x1024_S512x1024)) bitsLt_bf16_f32

/-- Quarter `s` of the block, projected. -/
noncomputable def xb (s : Fin 4) : FVec Ideal S512x512 .f32 :=
  matmul (φ₂ := .bf16) dot_S512x1024_S1024x512_S512x512_1_0_0_1_n_n none
    (normed (shapeCast (s := S4x128x1024) (α := EReal) S512x1024 (View.readAt (Elt Ideal) arg2.view
      (Rect.unit (s := S16x128x1024) ![4 * s, 0, 0] S4x128x1024.size
        (by intro a; fin_cases a <;> (simp [S4x128x1024, S16x128x1024] <;> omega))).toLoadRect (harg2.unread x0)) shapeCasts_S4x128x1024_S512x1024)
      (View.readAt (Elt Ideal) arg3.view (Rect.unit (s := S1x1024) ![0, 0] S1x1024.size
        (by intro a; fin_cases a <;> (simp [S1x1024]))).toLoadRect (harg3.unread x1)))
    (shapeCast (s := S1024x512) (α := EReal) S1024x512 (View.readAt (Elt Ideal) arg4.view (Rect.unit (s := S1024x512) ![0, 0] S1024x512.size
        (by intro a; fin_cases a <;> (simp [S1024x512]))).toLoadRect (harg4.unread x2)) shapeCasts_S1024x512_S1024x512)
    (constant S512x512 .f32 0x00000000#32)

/-- What it is: row `r` is position `r % 128` of batch `4 * s + r / 128`. -/
noncomputable def xbAt (s : Fin 4) (r e : Fin 512) : EReal :=
  dot (rms (fun d => x0 (ix3 ⟨4 * s + r / 128, by omega⟩ ⟨r % 128, by omega⟩ d)) (row x1)) (fun d j => x2 (ix2 d j)) e

theorem xb_apply (s : Fin 4) (r e : Fin 512) :
    xb arg2 harg2 arg3 harg3 arg4 harg4 x0 x1 x2 s (ix2 r e) = xbAt x0 x1 x2 s r e := by
  unfold xb normed
  simp only [View.readAt_eq_ld, harg2.read_unread, harg3.read_unread, harg4.read_unread]
  pointwise []
  simp only [lit_1024, lit_eps]
  rfl

/-! ## The stores -/

/-- The rectangle of quarter `s`, column block `j` and rows `16 k` to `16 k + 15`. -/
def storeInner (j : Fin 4) (k : Fin 32) : Rect S4x768x128 :=
  Rect.unit (s := S4x768x128) ![j, 24 * k, 0] S1x16x128.size
      (by intro a; fin_cases a <;> (simp [S1x16x128, S4x768x128] <;> omega))
def storeRect (s j : Fin 4) (k : Fin 32) : Rect S4x4x768x128 :=
  (Rect.unit (s := S4x4x768x128) ![s, 0, 0, 0] S1x4x768x128.size
      (by intro a; fin_cases a <;> (simp [S1x4x768x128, S4x4x768x128] <;> omega))).within
    ((storeInner j k).consLift ![1, 4, 768, 128] rfl (by intro a; fin_cases a <;> rfl)) (fun _ => rfl)

theorem slices_store (j : Fin 4) (k : Fin 32) : S512x512.Slices ![16 * k.val, 128 * j.val] S16x128 := by
  revert j k
  decide

/-- What it stores: sixteen rows and 128 columns of the quarter's product. -/
noncomputable def storeVal (s j : Fin 4) (k : Fin 32) : FVec Ideal S1x16x128 .f32 :=
  shapeCast S1x16x128 (extractStridedSlice S16x128 ![16 * k.val, 128 * j.val] (xb arg2 harg2 arg3 harg3 arg4 harg4 x0 x1 x2 s)
    (slices_store j k)) shapeCasts_S16x128_S1x16x128

noncomputable def storePiece (s j : Fin 4) (k : Fin 32) : View.Piece (Elt Ideal) S4x4x768x128 .f32 :=
  ⟨storeRect s j k, Rect.payAlong (r := storeInner j k)
    (Rect.numel_consLift (storeInner j k) ![1, 4, 768, 128] rfl (by intro a; fin_cases a <;> rfl))
    (storeVal arg2 harg2 arg3 harg3 arg4 harg4 x0 x1 x2 s j k)⟩

/-- Store number `n`. -/
noncomputable def storeN (n : ℕ) : View.Piece (Elt Ideal) S4x4x768x128 .f32 :=
  storePiece arg2 harg2 arg3 harg3 arg4 harg4 x0 x1 x2 ⟨n / 128 % 4, by omega⟩ ⟨n / 32 % 4, by omega⟩ ⟨n % 32, by omega⟩

/-- The first `n` stores, newest first. -/
noncomputable def stores : ℕ → List (View.Piece (Elt Ideal) S4x4x768x128 .f32)
  | 0 => []
  | n + 1 => storeN arg2 harg2 arg3 harg3 arg4 harg4 x0 x1 x2 n :: stores n

theorem HS0_128_eq : kernelRun0_A.sl.HS0_128 (F := Ideal) c arg2 harg2 arg3 harg3 arg4 harg4 x0 x1 x2
    = stores arg2 harg2 arg3 harg3 arg4 harg4 x0 x1 x2 128 := by
  unfold kernelRun0_A.sl.HS0_128
  rfl
theorem HS0_256_eq : kernelRun0_A.sl.HS0_256 (F := Ideal) c arg2 harg2 arg3 harg3 arg4 harg4 x0 x1 x2
    = stores arg2 harg2 arg3 harg3 arg4 harg4 x0 x1 x2 256 := by
  unfold kernelRun0_A.sl.HS0_256
  rfl
theorem HS0_384_eq : kernelRun0_A.sl.HS0_384 (F := Ideal) c arg2 harg2 arg3 harg3 arg4 harg4 x0 x1 x2
    = stores arg2 harg2 arg3 harg3 arg4 harg4 x0 x1 x2 384 := by
  unfold kernelRun0_A.sl.HS0_384
  rfl
theorem HS0_512_eq : kernelRun0_A.sl.HS0_512 (F := Ideal) c arg2 harg2 arg3 harg3 arg4 harg4 x0 x1 x2
    = stores arg2 harg2 arg3 harg3 arg4 harg4 x0 x1 x2 512 := by
  unfold kernelRun0_A.sl.HS0_512
  rfl

theorem mem_stores (n : ℕ) (p : View.Piece (Elt Ideal) S4x4x768x128 .f32) :
    p ∈ stores arg2 harg2 arg3 harg3 arg4 harg4 x0 x1 x2 n
      ↔ ∃ k < n, p = storeN arg2 harg2 arg3 harg3 arg4 harg4 x0 x1 x2 k := by
  induction n with
  | zero => simp [stores]
  | succ n ih =>
    rw [stores, List.mem_cons, ih]
    constructor
    · rintro (rfl | ⟨k, hk, rfl⟩)
      · exact ⟨n, n.lt_succ_self, rfl⟩
      · exact ⟨k, by omega, rfl⟩
    · rintro ⟨k, hk, rfl⟩
      rcases Nat.lt_succ_iff_lt_or_eq.1 hk with h | rfl
      · exact .inr ⟨k, h, rfl⟩
      · exact .inl rfl

/-! ## What the scratch holds -/

theorem storeRect_emb (s j : Fin 4) (k : Fin 32) (x : (storeRect s j k).shape.Idx) (a : Fin 4) :
    ((storeRect s j k).emb x a : ℕ) = ![s.val, j.val, 24 * k, 0] a + (x a).val := by
  rw [Rect.emb_apply]
  fin_cases a
  · show s.val + 0 + 1 * (x (0 : Fin 4)).val = s.val + (x (0 : Fin 4)).val
    omega
  · show 0 + j.val + 1 * (x (1 : Fin 4)).val = j.val + (x (1 : Fin 4)).val
    omega
  · show 0 + 24 * k.val + 1 * (x (2 : Fin 4)).val = 24 * k.val + (x (2 : Fin 4)).val
    omega
  · show 0 + 0 + 1 * (x (3 : Fin 4)).val = 0 + (x (3 : Fin 4)).val
    omega

theorem storeRect_size (s j : Fin 4) (k : Fin 32) (a : Fin 4) : (storeRect s j k).size a = ![1, 1, 16, 128] a := by
  fin_cases a <;> rfl

/-- The scratch, at its written rows. -/
noncomputable def heldAt (y : S4x4x768x128.Idx) : EReal :=
  xbAt x0 x1 (x2) (y 0) ⟨16 * ((y 2).val / 24) + (y 2).val % 24 % 16, by have h : (y 2).val < 768 := (y 2).isLt; omega⟩
    ⟨128 * (y 1).val + (y 3).val, by have h : (y 1).val < 4 := (y 1).isLt; have h3 : (y 3).val < 128 := (y 3).isLt; omega⟩

theorem heldAt_of (y : S4x4x768x128.Idx) (s j : Fin 4) (k : Fin 32) (r : Fin 16) (l : Fin 128)
    (h0 : (y 0).val = s) (h1 : (y 1).val = j) (h2 : (y 2).val = 24 * k + r) (h3 : (y 3).val = l) :
    heldAt x0 x1 x2 y = xbAt x0 x1 x2 s ⟨16 * k + r, by omega⟩ ⟨128 * j + l, by omega⟩ := by
  unfold heldAt
  rw [show y 0 = s from Fin.ext h0]
  congr 1
  · exact Fin.ext (by simp only [h2]; omega)
  · exact Fin.ext (by simp only [h1, h3])

theorem storeVal_apply (s j : Fin 4) (k : Fin 32) (u : Fin 1) (r : Fin 16) (l : Fin 128) :
    storeVal arg2 harg2 arg3 harg3 arg4 harg4 x0 x1 x2 s j k (ix3 u r l)
      = xbAt x0 x1 x2 s ⟨16 * k + r, by omega⟩ ⟨128 * j + l, by omega⟩ := by
  unfold storeVal
  pointwise []
  rw [xb_apply]

theorem storePiece_at (s j : Fin 4) (k : Fin 32) (x : (storeRect s j k).shape.Idx)
    (u : Fin 1) (r : Fin 16) (l : Fin 128) (h1 : u.val = (x (1 : Fin 4)).val) (h2 : r.val = (x (2 : Fin 4)).val)
    (h3 : l.val = (x (3 : Fin 4)).val) :
    (storePiece arg2 harg2 arg3 harg3 arg4 harg4 x0 x1 x2 s j k).2 x
      = storeVal arg2 harg2 arg3 harg3 arg4 harg4 x0 x1 x2 s j k (ix3 u r l) := by
  unfold storePiece
  generalize storeVal arg2 harg2 arg3 harg3 arg4 harg4 x0 x1 x2 s j k = w
  have hz : ∀ i : Fin 3, ((ix3 u r l : S1x16x128.Idx) i).val = (x i.succ).val := by
    intro a
    fin_cases a
    · exact h1
    · exact h2
    · exact h3
  exact congrArg w (funext fun i => Fin.ext
    ((Rect.reshapeEquiv_consLift_succ (storeInner j k) ![1, 4, 768, 128] rfl (by intro a; fin_cases a <;> rfl) x i).symm.trans
      (hz i).symm))

theorem storePiece_apply (s j : Fin 4) (k : Fin 32) (x : (storeRect s j k).shape.Idx) :
    (storePiece arg2 harg2 arg3 harg3 arg4 harg4 x0 x1 x2 s j k).2 x = heldAt x0 x1 x2 ((storeRect s j k).emb x) := by
  have hx (a : Fin 4) : (x a).val < ![1, 1, 16, 128] a := (storeRect_size s j k a) ▸ (x a).isLt
  have e := storeRect_emb s j k x
  obtain ⟨u0, h0⟩ : ∃ u : Fin 1, u.val = (x (0 : Fin 4)).val := ⟨⟨_, hx 0⟩, rfl⟩
  obtain ⟨u, h1⟩ : ∃ u : Fin 1, u.val = (x (1 : Fin 4)).val := ⟨⟨_, hx 1⟩, rfl⟩
  obtain ⟨r, h2⟩ : ∃ u : Fin 16, u.val = (x (2 : Fin 4)).val := ⟨⟨_, hx 2⟩, rfl⟩
  obtain ⟨l, h3⟩ : ∃ u : Fin 128, u.val = (x (3 : Fin 4)).val := ⟨⟨_, hx 3⟩, rfl⟩
  have e0 := e 0
  have e1 := e 1
  have e2 := e 2
  have e3 := e 3
  generalize (storeRect s j k).emb x = y at e0 e1 e2 e3
  rw [storePiece_at arg2 harg2 arg3 harg3 arg4 harg4 x0 x1 x2 s j k x u r l h1 h2 h3, storeVal_apply]
  refine (heldAt_of x0 x1 x2 y s j k r l ?_ ?_ ?_ ?_).symm
  · rw [e0, ← h0]; simp
  · rw [e1, ← h1]; simp
  · rw [e2, ← h2]; simp
  · rw [e3, ← h3]; simp

/-- After the stores of quarter `s`, the scratch at one of the quarter's written rows. -/
theorem canon_stores (n : ℕ) (y : S4x4x768x128.Idx) (hn : 128 * (y 0).val + 128 ≤ n) (hy : (y 2).val % 24 < 16) :
    View.canon (stores arg2 harg2 arg3 harg3 arg4 harg4 x0 x1 x2 n) y = heldAt x0 x1 x2 y := by
  have h0 : (y 0).val < 4 := (y 0).isLt
  have h1 : (y 1).val < 4 := (y 1).isLt
  have h2 : (y 2).val < 768 := (y 2).isLt
  have h3 : (y 3).val < 128 := (y 3).isLt
  refine View.canon_apply_of_pieces (Val := Elt Ideal) (e := .f32) (heldAt x0 x1 x2) _ ?_ y ?_
  · intro p hp
    obtain ⟨n, -, rfl⟩ := (mem_stores arg2 harg2 arg3 harg3 arg4 harg4 x0 x1 x2 n p).1 hp
    exact storePiece_apply arg2 harg2 arg3 harg3 arg4 harg4 x0 x1 x2 _ _ _
  · refine ⟨_, (mem_stores arg2 harg2 arg3 harg3 arg4 harg4 x0 x1 x2 n _).2
      ⟨128 * (y 0).val + 32 * (y 1).val + (y 2).val / 24, by omega, rfl⟩, ?_⟩
    refine (LoadRect.mem_set _).2 fun a => ?_
    fin_cases a
    · refine ⟨0, Nat.one_pos, ?_⟩
      show (y 0).val = (128 * (y 0).val + 32 * (y 1).val + (y 2).val / 24) / 128 % 4 + 0 + 1 * 0
      omega
    · refine ⟨0, Nat.one_pos, ?_⟩
      show (y 1).val = 0 + (128 * (y 0).val + 32 * (y 1).val + (y 2).val / 24) / 32 % 4 + 1 * 0
      omega
    · refine ⟨(y 2).val % 24, hy, ?_⟩
      show (y 2).val = 0 + 24 * ((128 * (y 0).val + 32 * (y 1).val + (y 2).val / 24) % 32) + 1 * ((y 2).val % 24)
      omega
    · refine ⟨(y 3).val, h3, ?_⟩
      show (y 3).val = 0 + 0 + 1 * (y 3).val
      omega

/-! ## The loads -/

/-- Row `t` of every sixteen, 128 columns. -/
def loadInner (j : Fin 4) (t : Fin 16) : LoadRect S4x768x128 where
  off := ![j, t, 0]
  size := S1x32x128.size
  stride := ![1, 24, 1]
  inb := by intro a; fin_cases a <;> (simp [S1x32x128, S4x768x128] <;> omega)
def loadRect (s j : Fin 4) (t : Fin 16) : LoadRect S4x4x768x128 :=
  (Rect.unit (s := S4x4x768x128) ![s, 0, 0, 0] S1x4x768x128.size
      (by intro a; fin_cases a <;> (simp [S1x4x768x128, S4x4x768x128] <;> omega))).withinL
    ((loadInner j t).consLift ![1, 4, 768, 128] rfl (by intro a; fin_cases a <;> rfl)) (fun _ => rfl)
noncomputable def loaded (L : List (View.Piece (Elt Ideal) S4x4x768x128 .f32)) (s j : Fin 4) (t : Fin 16) : FVec Ideal S32x128 .f32 :=
  shapeCast (s := S1x32x128) (α := EReal) S32x128 (LoadRect.valAlong (lr := loadInner j t)
    (LoadRect.numel_consLift (loadInner j t) ![1, 4, 768, 128] rfl (by intro a; fin_cases a <;> rfl))
      (arg7.view.readCov L (loadRect s j t))) shapeCasts_S1x32x128_S32x128

theorem loadRect_idx (s j : Fin 4) (t : Fin 16) (x : (loadRect s j t).shape.Idx) (a : Fin 4) :
    ((loadRect s j t).idx x a : ℕ) = ![s.val, j.val, t, 0] a + ![1, 1, 24, 1] a * (x a).val := by
  rw [LoadRect.idx_apply]
  fin_cases a
  · show s.val + 0 + 1 * (x (0 : Fin 4)).val = s.val + 1 * (x (0 : Fin 4)).val
    omega
  · show 0 + j.val + 1 * (x (1 : Fin 4)).val = j.val + 1 * (x (1 : Fin 4)).val
    omega
  · show 0 + t.val + 24 * (x (2 : Fin 4)).val = t.val + 24 * (x (2 : Fin 4)).val
    omega
  · show 0 + 0 + 1 * (x (3 : Fin 4)).val = 0 + 1 * (x (3 : Fin 4)).val
    omega

theorem loaded_apply (n : ℕ) (s j : Fin 4) (hn : 128 * s.val + 128 ≤ n) (t : Fin 16) (r : Fin 32) (l : Fin 128) :
    loaded arg7 (stores arg2 harg2 arg3 harg3 arg4 harg4 x0 x1 x2 n) s j t (ix2 r l)
      = xbAt x0 x1 x2 s ⟨16 * r + t, by omega⟩ ⟨128 * j + l, by omega⟩ := by
  unfold loaded
  pointwise []
  have hx : (Shape.reshapeEquiv (LoadRect.numel_consLift (loadInner j t) ![1, 4, 768, 128] rfl (by intro a; fin_cases a <;> rfl))
      (ix3 0 r l) : (loadRect s j t).shape.Idx) = Fin.cons ⟨0, Nat.one_pos⟩ (ix3 0 r l : S1x32x128.Idx) :=
    Shape.reshapeEquiv_cons_one (d := (loadInner j t).size) _ _
  have e := loadRect_idx s j t (Fin.cons ⟨0, Nat.one_pos⟩ (ix3 0 r l : S1x32x128.Idx))
  have e0 : _ = s.val + 1 * 0 := e 0
  have e1 : _ = j.val + 1 * 0 := e 1
  have e2 : _ = t.val + 24 * r.val := e 2
  have e3 : _ = 0 + 1 * l.val := e 3
  refine (congrArg (arg7.view.readCov (stores arg2 harg2 arg3 harg3 arg4 harg4 x0 x1 x2 n) (loadRect s j t)) hx).trans ?_
  rw [View.readCov_eq_canon']
  show View.canon _ ((loadRect s j t).idx _) = _
  refine (show ∀ y : S4x4x768x128.Idx, (y 0).val = s + 1 * 0 → (y 1).val = j + 1 * 0 → (y 2).val = t + 24 * r →
    (y 3).val = 0 + 1 * l → View.canon (stores arg2 harg2 arg3 harg3 arg4 harg4 x0 x1 x2 n) y
      = xbAt x0 x1 x2 s ⟨16 * r + t, by omega⟩ ⟨128 * j + l, by omega⟩ from ?_) _ e0 e1 e2 e3
  intro y e0 e1 e2 e3
  rw [canon_stores arg2 harg2 arg3 harg3 arg4 harg4 x0 x1 x2 n y (by omega) (by omega)]
  exact heldAt_of x0 x1 x2 y s j r t l (by omega) (by omega) (by omega) (by omega)

end Cert.InBlock
-- ==== Proof.InHost.lean ====
/- What the second call's host operations hand its launch: each window's array, read at an index. -/
module

public import proofs.«01_k».proof.Proof.Args
public import proofs.«01_k».proof.Proof.Gen.Kernel2Ideal.Frame.Runs
public import Idealize.ShloMosaic.Lib.Pipeline.ValueKit
public import Idealize.ShloMosaic.Lib.StableHlo.ReadAt

@[expose] public section

set_option maxRecDepth 16384

namespace Cert.InHost

open Cert.Kernel2Ideal Cert.Kernel2Ideal.Gen Cert.Chunk Cert.Args Idealize.ShloMosaic Idealize.ShloMosaic.TcCoe

variable (m : (ℓ : Loc nD τ sig) → Buf (Elt Ideal) ℓ) (c : Dev nD)

theorem v14_apply (d : Fin 1024) :
    (V m c main_v14 : S1x1024.Idx → EReal) (ix2 0 d) = m ((c : Thread nD τ).loc main_arg1) (ix2 0 d) := by
  unfold V hostOps0 hostOps0_1 hostOps0_2 hostOps0_3 hostOps0_4 hostOps0_5 hostOps0_6 hostOps0_7 hostOps0_8 hostOps0_9 hostOps0_10
    hostOps0_11 hostOps0_12 hostOps0_13 hostOps0_14 hostOps0_15 hostOps0_16 hostOps0_17 hostOps0_18 hostOps0_19 hostOps0_20
    hostOps0_21 hostOps0_22
  simp only [List.flatten_cons, List.flatten_nil, List.append_nil, List.cons_append, List.nil_append]
  after_reads_at

theorem lit_one : Ideal.ofBits .f32 0x3F800000#32 = 1 := by
  simp [Ideal.ofBits, Ideal.ieee, -EReal.coe_mul]; norm_num

theorem inside_bit : ∀ j : Fin 512, IntOp.andi (IntOp.cmpi CmpIPredicate.sge (BitVec.ofNat 32 (3072 + j)) 3072#32)
    (IntOp.cmpi CmpIPredicate.slt (BitVec.ofNat 32 (3072 + j)) 3584#32) = 1#1 := by
  decide +kernel

/-- The columns of the weight the call reads are not scaled. -/
theorem v12_apply (d : Fin 1024) (j : Fin 512) :
    (V m c main_v12 : S1024x6144.Idx → EReal) (ix2 d ⟨3072 + j, by omega⟩)
      = mat (m ((c : Thread nD τ).loc main_arg2)) d ⟨3072 + j, by omega⟩ := by
  unfold V hostOps0 hostOps0_1 hostOps0_2 hostOps0_3 hostOps0_4 hostOps0_5 hostOps0_6 hostOps0_7 hostOps0_8 hostOps0_9 hostOps0_10
    hostOps0_11 hostOps0_12 hostOps0_13 hostOps0_14 hostOps0_15 hostOps0_16 hostOps0_17 hostOps0_18 hostOps0_19 hostOps0_20
    hostOps0_21 hostOps0_22
  simp only [List.flatten_cons, List.flatten_nil, List.append_nil, List.cons_append, List.nil_append]
  after_reads_at
  refine (congrArg (mat (m ((c : Thread nD τ).loc main_arg2)) d ⟨3072 + j, by omega⟩ * ·) ?_).trans (mul_one _)
  show Scalar.select (IntOp.andi (IntOp.cmpi CmpIPredicate.sge (BitVec.ofNat 32 (3072 + j)) 3072#32)
    (IntOp.cmpi CmpIPredicate.slt (BitVec.ofNat 32 (3072 + j)) 3584#32)) (Ideal.ofBits .f32 0x3F800000#32)
    (Ideal.ofBits .f32 0x3F000000#32) = 1
  rw [inside_bit, lit_one]
  rfl

/-! ## The placement matrix -/

theorem v20_apply (r : Fin 512) : (V m c main_v20 : S512.Idx → BitVec 32) (ix1 r) = BitVec.ofNat 32 (r % 16) := by
  unfold V hostOps0 hostOps0_1 hostOps0_2 hostOps0_3 hostOps0_4 hostOps0_5 hostOps0_6 hostOps0_7 hostOps0_8 hostOps0_9 hostOps0_10
    hostOps0_11 hostOps0_12 hostOps0_13 hostOps0_14 hostOps0_15 hostOps0_16 hostOps0_17 hostOps0_18 hostOps0_19 hostOps0_20
    hostOps0_21 hostOps0_22
  simp only [List.flatten_cons, List.flatten_nil, List.append_nil, List.cons_append, List.nil_append]
  after_reads_at
  revert r
  decide +kernel

theorem v24_apply (r : Fin 512) : (V m c main_v24 : S512.Idx → BitVec 32) (ix1 r) = BitVec.ofNat 32 (r % 16) := by
  unfold V hostOps0 hostOps0_1 hostOps0_2 hostOps0_3 hostOps0_4 hostOps0_5 hostOps0_6 hostOps0_7 hostOps0_8 hostOps0_9 hostOps0_10
    hostOps0_11 hostOps0_12 hostOps0_13 hostOps0_14 hostOps0_15 hostOps0_16 hostOps0_17 hostOps0_18 hostOps0_19 hostOps0_20
    hostOps0_21 hostOps0_22
  simp only [List.flatten_cons, List.flatten_nil, List.append_nil, List.cons_append, List.nil_append]
  after_reads_at
  revert r
  decide +kernel

theorem v30_apply (r : Fin 512) : (V m c main_v30 : S512.Idx → BitVec 32) (ix1 r) = BitVec.ofNat 32 (r % 128 / 16 % 4) := by
  unfold V hostOps0 hostOps0_1 hostOps0_2 hostOps0_3 hostOps0_4 hostOps0_5 hostOps0_6 hostOps0_7 hostOps0_8 hostOps0_9 hostOps0_10
    hostOps0_11 hostOps0_12 hostOps0_13 hostOps0_14 hostOps0_15 hostOps0_16 hostOps0_17 hostOps0_18 hostOps0_19 hostOps0_20
    hostOps0_21 hostOps0_22
  simp only [List.flatten_cons, List.flatten_nil, List.append_nil, List.cons_append, List.nil_append]
  after_reads_at
  revert r
  decide +kernel

theorem v21_apply (r : Fin 512) : (V m c main_v21 : S512.Idx → BitVec 32) (ix1 r) = BitVec.ofNat 32 (r / 128) := by
  unfold V hostOps0 hostOps0_1 hostOps0_2 hostOps0_3 hostOps0_4 hostOps0_5 hostOps0_6 hostOps0_7 hostOps0_8 hostOps0_9 hostOps0_10
    hostOps0_11 hostOps0_12 hostOps0_13 hostOps0_14 hostOps0_15 hostOps0_16 hostOps0_17 hostOps0_18 hostOps0_19 hostOps0_20
    hostOps0_21 hostOps0_22
  simp only [List.flatten_cons, List.flatten_nil, List.append_nil, List.cons_append, List.nil_append]
  after_reads_at
  revert r
  decide +kernel

theorem v40_apply (r : Fin 512) : (V m c main_v40 : S512.Idx → BitVec 32) (ix1 r) = BitVec.ofNat 32 ((r / 128 + 4 * (r % 128 / 16 / 4))) := by
  unfold V hostOps0 hostOps0_1 hostOps0_2 hostOps0_3 hostOps0_4 hostOps0_5 hostOps0_6 hostOps0_7 hostOps0_8 hostOps0_9 hostOps0_10
    hostOps0_11 hostOps0_12 hostOps0_13 hostOps0_14 hostOps0_15 hostOps0_16 hostOps0_17 hostOps0_18 hostOps0_19 hostOps0_20
    hostOps0_21 hostOps0_22
  simp only [List.flatten_cons, List.flatten_nil, List.append_nil, List.cons_append, List.nil_append]
  after_reads_at
  revert r
  decide +kernel

theorem v23_apply (r : Fin 512) : (V m c main_v23 : S512.Idx → BitVec 32) (ix1 r) = BitVec.ofNat 32 (r % 128 / 16) := by
  unfold V hostOps0 hostOps0_1 hostOps0_2 hostOps0_3 hostOps0_4 hostOps0_5 hostOps0_6 hostOps0_7 hostOps0_8 hostOps0_9 hostOps0_10
    hostOps0_11 hostOps0_12 hostOps0_13 hostOps0_14 hostOps0_15 hostOps0_16 hostOps0_17 hostOps0_18 hostOps0_19 hostOps0_20
    hostOps0_21 hostOps0_22
  simp only [List.flatten_cons, List.flatten_nil, List.append_nil, List.cons_append, List.nil_append]
  after_reads_at
  revert r
  decide +kernel

theorem v47_eq (r k : Fin 512) : (V m c main_v47 : S512x512.Idx → EReal) (ix2 r k)
    = FloatOps.uitofp (F := Ideal) .bf16 (IntOp.andi (IntOp.andi
        (IntOp.cmpi .eq ((V m c main_v20 : S512.Idx → BitVec 32) (ix1 r)) ((V m c main_v24 : S512.Idx → BitVec 32) (ix1 k)))
        (IntOp.cmpi .eq ((V m c main_v30 : S512.Idx → BitVec 32) (ix1 r)) ((V m c main_v21 : S512.Idx → BitVec 32) (ix1 k))))
        (IntOp.cmpi .eq ((V m c main_v40 : S512.Idx → BitVec 32) (ix1 r)) ((V m c main_v23 : S512.Idx → BitVec 32) (ix1 k)))) := by
  unfold V hostOps0 hostOps0_1 hostOps0_2 hostOps0_3 hostOps0_4 hostOps0_5 hostOps0_6 hostOps0_7 hostOps0_8 hostOps0_9 hostOps0_10
    hostOps0_11 hostOps0_12 hostOps0_13 hostOps0_14 hostOps0_15 hostOps0_16 hostOps0_17 hostOps0_18 hostOps0_19 hostOps0_20
    hostOps0_21 hostOps0_22
  simp only [List.flatten_cons, List.flatten_nil, List.append_nil, List.cons_append, List.nil_append]
  after_reads_at

/-- The placement matrix: which entry of a row of four tiles goes to which lane. -/
def Place (r k : Fin 512) : Prop := r.val % 16 = k % 16 ∧ r.val % 128 / 16 % 4 = k / 128 ∧ r.val / 128 + 4 * (r % 128 / 16 / 4) = k % 128 / 16
instance (r k : Fin 512) : Decidable (Place r k) := inferInstanceAs (Decidable (_ ∧ _ ∧ _))

theorem bit_eq {a b : ℕ} (ha : a < 1024) (hb : b < 1024) :
    IntOp.cmpi .eq (BitVec.ofNat 32 a) (BitVec.ofNat 32 b) = if a = b then 1#1 else 0#1 := by
  have h : (BitVec.ofNat 32 a = BitVec.ofNat 32 b) ↔ a = b := by
    rw [← BitVec.toNat_inj, BitVec.toNat_ofNat, BitVec.toNat_ofNat, Nat.mod_eq_of_lt (by omega), Nat.mod_eq_of_lt (by omega)]
  by_cases e : a = b
  · subst e
    simp [IntOp.cmpi]
  · rw [if_neg e]
    show BitVec.ofBool (BitVec.ofNat 32 a == BitVec.ofNat 32 b) = 0#1
    rw [beq_eq_false_iff_ne.2 (fun hh => e (h.1 hh))]
    rfl

theorem v47_apply (r k : Fin 512) : (V m c main_v47 : S512x512.Idx → EReal) (ix2 r k) = if Place r k then (1 : EReal) else 0 := by
  rw [v47_eq, v20_apply, v24_apply, v30_apply, v21_apply, v40_apply, v23_apply, bit_eq (by omega) (by omega),
    bit_eq (by omega) (by omega), bit_eq (by omega) (by omega)]
  have h1 : (FloatOps.uitofp (F := Ideal) .bf16 (1#1) : EReal) = 1 := by
    show (((1#1 : BitVec 1).toNat : ℝ) : EReal) = 1
    simp
  have h0 : (FloatOps.uitofp (F := Ideal) .bf16 (0#1) : EReal) = 0 := by
    show (((0#1 : BitVec 1).toNat : ℝ) : EReal) = 0
    simp
  unfold Place
  by_cases a : r.val % 16 = k % 16 <;> by_cases b : r.val % 128 / 16 % 4 = k / 128 <;>
    by_cases d : r.val / 128 + 4 * (r % 128 / 16 / 4) = k % 128 / 16 <;> simp only [a, b, d, if_true, if_false, true_and,
      and_true, and_self, false_and, and_false] <;> first | exact h1 | exact h0

end Cert.InHost
-- ==== Proof.InTile.lean ====
/- The second call's tiles: the rows read sixteen apart, moved from "lane holds columns of eight groups" to "lane holds
   position and column of one group", by lane exchange for the first column block and by a placement product for the rest. -/
module

public import proofs.«01_k».proof.Proof.InScratch
public import proofs.«01_k».proof.Proof.InHost
public import proofs.«01_k».proof.Proof.ScanTile

@[expose] public section

set_option maxRecDepth 16384

namespace Cert.InBlock

open Cert.Kernel2Ideal Cert.Kernel2Ideal.Gen Cert.Chunk Cert.Args Idealize.ShloMosaic Idealize.ShloMosaic.TcCoe
  Idealize.ShloMosaic.Tactic

variable (arg2 : Memref sig .tc .vmem S16x128x1024 .f32) (harg2 : arg2.IsWhole) (arg3 : Memref sig .tc .vmem S1x1024 .f32) (harg3 : arg3.IsWhole)
  (arg4 : Memref sig .tc .vmem S1024x512 .bf16) (harg4 : arg4.IsWhole)
  (arg5 : Memref sig .tc .vmem S512x512 .bf16) (harg5 : arg5.IsWhole) (arg7 : Memref sig .tc .vmem S4x4x768x128 .f32)
  (x0 : Vec Ideal S16x128x1024 .f32) (x1 : Vec Ideal S1x1024 .f32) (x2 : Vec Ideal S1024x512 .bf16) (x3 : Vec Ideal S512x512 .bf16)

/-! ## The loaded tiles -/

variable (L : List (View.Piece (Elt Ideal) S4x4x768x128 .f32))

/-- The rows a load of quarter `s` reads, from the stores made before it, are the projected ones. -/
def Held (s : Fin 4) : Prop := ∀ (j : Fin 4) (t : Fin 16) (r : Fin 32) (l : Fin 128),
  loaded arg7 L s j t (ix2 r l) = xbAt x0 x1 x2 s ⟨16 * r + t, by omega⟩ ⟨128 * j + l, by omega⟩

theorem held (n : ℕ) (s : Fin 4) (hn : 128 * s.val + 128 ≤ n) :
    Held arg7 x0 x1 x2 (stores arg2 harg2 arg3 harg3 arg4 harg4 x0 x1 x2 n) s :=
  fun j t r l => loaded_apply arg2 harg2 arg3 harg3 arg4 harg4 arg7 x0 x1 x2 n s j hn t r l

/-- Tile `tl` of a half: row `8 * half + tl` of every sixteen of quarter `s`, column block `j`. -/
noncomputable def tile (s j : Fin 4) (half : Fin 2) (tl : ℕ) : FVec Ideal S32x128 .f32 :=
  loaded arg7 L s j
    ⟨(8 * half.val + tl) % 16, Nat.mod_lt _ (by decide)⟩

theorem tile_apply (s j : Fin 4) (hL : Held arg7 x0 x1 x2 L s) (half : Fin 2) (tl : ℕ) (ht : tl < 8) (r : Fin 32) (l : Fin 128) :
    tile arg7 L s j half tl (ix2 r l)
      = xbAt x0 x1 x2 s ⟨16 * r + (8 * half + tl), by omega⟩ ⟨128 * j + l, by omega⟩ := by
  unfold tile
  rw [hL]
  congr 1
  exact Fin.ext (by simp only []; omega)

/-! ## The first column block -/

/-- Group `k` of the first column block, one half of its positions. -/
noncomputable def swapVal (s : Fin 4) (half : Fin 2) (k : Fin 8) : FVec Ideal S1x32x128 .bf16 :=
  shapeCast S1x32x128 (truncf .bf16 (Block.exchange (tile arg7 L s 0 half) k : FVec Ideal S32x128 .f32)
    bitsLt_bf16_f32 : FVec Ideal S32x128 .bf16) shapeCasts_S32x128_S1x32x128

theorem swapVal_apply (s : Fin 4) (hL : Held arg7 x0 x1 x2 L s) (half : Fin 2) (k : Fin 8) (u : Fin 1) (r : Fin 32) (l : Fin 128) :
    swapVal arg7 L s half k (ix3 u r l)
      = xbAt x0 x1 x2 s ⟨16 * r + (8 * half + l / 16), by omega⟩ ⟨16 * k + l % 16, by omega⟩ := by
  unfold swapVal
  pointwise []
  refine (Block.exchange_apply _ r l k).trans ((tile_apply arg7 x0 x1 x2 L s 0 hL half _ (by omega) r _).trans ?_)
  congr 1
  exact Fin.ext (by show 128 * 0 + (16 * k.val + l.val % 16) = 16 * k.val + l.val % 16; omega)

/-! ## The other column blocks -/

/-- The lanes of the lower half. -/
noncomputable def keep : IVec S32x128 1 :=
  broadcastTo S32x128 (shapeCast S1x128 k0_pay412 shapeCasts_S1x128_S1x128) broadcasts_S1x128_S32x128

theorem keep_apply (r : Fin 32) (l : Fin 128) : keep (ix2 r l) = if l.val / 64 = 0 then 1#1 else 0#1 := by
  unfold keep k0_pay412
  pointwise []
  revert l
  decide +kernel

/-- Tiles `a` and `a + 4` joined at their lower (`0`) or upper halves. -/
noncomputable def join : ℕ → (ℕ → FVec Ideal S32x128 .f32) → ℕ → FVec Ideal S32x128 .f32
  | 0, a, i => select keep (a i) (dynamicRotate 1 (64#32) none (a (i + 4)) rotates_S32x128_d1)
  | _, a, i => select keep (dynamicRotate 1 (64#32) none (a i) rotates_S32x128_d1) (a (i + 4))

theorem join_apply (hi : Fin 2) (a : ℕ → FVec Ideal S32x128 .f32) (i : ℕ) (r : Fin 32) (l : Fin 128) :
    join hi a i (ix2 r l) = a (i + 4 * (l / 64)) (ix2 r ⟨64 * hi + l % 64, by omega⟩) := by
  fin_cases hi
  · show select keep (a i) (dynamicRotate 1 (64#32) none (a (i + 4)) rotates_S32x128_d1) (ix2 r l) = _
    pointwise []
    rw [keep_apply, Block.select_if]
    split_ifs <;> apply Block.tile_congr <;> first | omega | (simp only []; omega)
  · show select keep (dynamicRotate 1 (64#32) none (a i) rotates_S32x128_d1) (a (i + 4)) (ix2 r l) = _
    pointwise []
    rw [keep_apply, Block.select_if]
    split_ifs <;> apply Block.tile_congr <;> first | omega | (simp only []; omega)

/-- Four joins side by side. -/
noncomputable def joins (s j : Fin 4) (half hi : Fin 2) : FVec Ideal S32x512 .f32 :=
  concatenate S32x512 1 (List.ofFn fun a : Fin 4 => ⟨S32x128,
      join hi (tile arg7 L s j half) a⟩)
    (by simp only [List.map_ofFn, Function.comp_def]; decide +kernel)

/-- The same in the short format. -/
noncomputable def part (s j : Fin 4) (half hi : Fin 2) : FVec Ideal S32x512 .bf16 :=
  truncf .bf16 (joins arg7 L s j half hi) bitsLt_bf16_f32

theorem part_apply (s j : Fin 4) (hL : Held arg7 x0 x1 x2 L s) (half hi : Fin 2) (r : Fin 32) (k : Fin 512) :
    part arg7 L s j half hi (ix2 r k)
      = xbAt x0 x1 x2 s ⟨16 * r + (8 * half + (k / 128 + 4 * (k % 128 / 64))), by omega⟩
        ⟨128 * j + (64 * hi + k % 128 % 64), by omega⟩ := by
  unfold part
  pointwise []
  unfold joins
  refine (concatenate_ofFn_apply (s₁ := S32x128) (t := S32x512) (N := 4) 1 _ _ rfl 128 rfl (ix2 r k) ⟨k / 128, by omega⟩ rfl
    (ix2 r ⟨k % 128, by omega⟩) rfl (by intro b hb; fin_cases b; · rfl
                                        · exact absurd rfl hb)).trans ?_
  exact (join_apply hi _ _ r _).trans (tile_apply arg7 x0 x1 x2 L s j hL half _ (by simp only []; omega) r _)

/-- The three other column blocks and both halves of the positions, one below another. -/
noncomputable def parts (s : Fin 4) (hi : Fin 2) : FVec Ideal S192x512 .bf16 :=
  concatenate S192x512 0 (List.ofFn fun n : Fin 6 => ⟨S32x512, part arg7 L s
      ⟨(1 + n.val / 2) % 4, Nat.mod_lt _ (by decide)⟩ ⟨n.val % 2, Nat.mod_lt _ (by decide)⟩ hi⟩)
    (by simp only [List.map_ofFn, Function.comp_def]; decide +kernel)

theorem parts_apply (s : Fin 4) (hL : Held arg7 x0 x1 x2 L s) (hi : Fin 2) (n : Fin 6) (r : Fin 32) (k : Fin 512) :
    parts arg7 L s hi (ix2 ⟨32 * n + r, by omega⟩ k)
      = xbAt x0 x1 x2 s ⟨16 * r + (8 * (n % 2) + (k / 128 + 4 * (k % 128 / 64))), by omega⟩
        ⟨128 * (1 + n / 2) + (64 * hi + k % 128 % 64), by omega⟩ := by
  refine (concatenate_ofFn_apply (s₁ := S32x512) (t := S192x512) (N := 6) 0 _ _ rfl 32 rfl (ix2 ⟨32 * n + r, by omega⟩ k) n
    (by show (32 * n.val + r.val) / 32 = n.val; omega)
    (ix2 r k) (by show r.val = (32 * n.val + r.val) % 32; omega) (by intro b hb; fin_cases b; · exact absurd rfl hb
                                                                     · rfl)).trans ?_
  refine (part_apply arg7 x0 x1 x2 L s _ hL _ hi r k).trans ?_
  congr 1
  exact Fin.ext (by simp only []; omega)

/-- The placement product. -/
noncomputable def placed (s : Fin 4) (hi : Fin 2) : FVec Ideal S192x512 .bf16 :=
  truncf .bf16 (matmul (φ₂ := .bf16) dot_S192x512_S512x512_S192x512_1_0_0_1_n_n none (parts arg7 L s hi)
    (shapeCast (s := S512x512) (α := EReal) S512x512 (View.readAt (Elt Ideal) arg5.view (Rect.unit (s := S512x512) ![0, 0] S512x512.size
        (by intro a; fin_cases a <;> (simp [S512x512]))).toLoadRect (harg5.unread x3)) shapeCasts_S512x512_S512x512 : FVec Ideal S512x512 .bf16)
    (constant S192x512 .f32 0x00000000#32)) bitsLt_bf16_f32

/-- The row of the placement matrix that column `128 gl + l` takes. -/
def source (gl : Fin 4) (l : Fin 128) : Fin 512 := ⟨128 * (l / 16 % 4) + 16 * (gl + 4 * (l / 16 / 4)) + l % 16, by omega⟩

theorem place_iff (r : Fin 512) (gl : Fin 4) (l : Fin 128) :
    InHost.Place r ⟨128 * gl + l, by omega⟩ ↔ r = source gl l := by
  unfold InHost.Place source
  rw [Fin.ext_iff]
  simp only []
  omega

theorem placed_apply (hq : ∀ r k : Fin 512, x3 (ix2 r k) = if InHost.Place r k then (1 : EReal) else 0)
    (s : Fin 4) (hL : Held arg7 x0 x1 x2 L s) (hi : Fin 2) (n : Fin 6) (r : Fin 32) (gl : Fin 4) (l : Fin 128) :
    placed arg5 harg5 arg7 x3 L s hi (ix2 ⟨32 * n + r, by omega⟩ ⟨128 * gl + l, by omega⟩)
      = xbAt x0 x1 x2 s ⟨16 * r + (8 * (n % 2) + l / 16), by omega⟩ ⟨128 * (1 + n / 2) + (64 * hi + (16 * gl + l % 16)), by omega⟩ := by
  unfold placed
  simp only [View.readAt_eq_ld, harg5.read_unread]
  pointwise []
  simp only [hq, parts_apply arg7 x0 x1 x2 L s hL, place_iff, mul_ite, mul_one, mul_zero, Finset.sum_ite_eq', Finset.mem_univ, if_true]
  unfold source
  congr 1
  · exact Fin.ext (by simp only []; omega)
  · exact Fin.ext (by simp only []; omega)

theorem slices_placed (n : Fin 6) (gl : Fin 4) : S192x512.Slices ![32 * n.val, 128 * gl.val] S32x128 := by
  revert n gl
  decide

/-- One group of the other column blocks, one half of its positions. -/
noncomputable def placeVal (s : Fin 4) (hi : Fin 2) (n : Fin 6) (gl : Fin 4) : FVec Ideal S1x32x128 .bf16 :=
  shapeCast S1x32x128 (extractStridedSlice S32x128 ![32 * n.val, 128 * gl.val]
    (placed arg5 harg5 arg7 x3 L s hi) (slices_placed n gl)) shapeCasts_S32x128_S1x32x128

theorem placeVal_apply (hq : ∀ r k : Fin 512, x3 (ix2 r k) = if InHost.Place r k then (1 : EReal) else 0)
    (s : Fin 4) (hL : Held arg7 x0 x1 x2 L s) (hi : Fin 2) (n : Fin 6) (gl : Fin 4) (u : Fin 1) (r : Fin 32) (l : Fin 128) :
    placeVal arg5 harg5 arg7 x3 L s hi n gl (ix3 u r l)
      = xbAt x0 x1 x2 s ⟨16 * r + (8 * (n % 2) + l / 16), by omega⟩ ⟨128 * (1 + n / 2) + (64 * hi + (16 * gl + l % 16)), by omega⟩ := by
  unfold placeVal
  pointwise []
  exact placed_apply arg5 harg5 arg7 x0 x1 x2 x3 L hq s hL hi n r gl l

end Cert.InBlock
-- ==== Proof.InOut.lean ====
/- What one grid point of the second call leaves in its block of the result. -/
module

public import proofs.«01_k».proof.Proof.InTile
public import proofs.«01_k».proof.Proof.Gen.Kernel2Ideal.Frame

@[expose] public section

set_option maxRecDepth 16384

namespace Cert.InBlock

open Cert.Kernel2Ideal Cert.Kernel2Ideal.Gen Cert.Chunk Cert.Args Idealize.ShloMosaic Idealize.ShloMosaic.TcCoe
  Idealize.ShloMosaic.Tactic

variable (c : Dev nD) (i : grid0.Coords)
  (arg2 : Memref sig .tc .vmem S16x128x1024 .f32) (harg2 : arg2.IsWhole) (arg3 : Memref sig .tc .vmem S1x1024 .f32) (harg3 : arg3.IsWhole)
  (arg4 : Memref sig .tc .vmem S1024x512 .bf16) (harg4 : arg4.IsWhole)
  (arg5 : Memref sig .tc .vmem S512x512 .bf16) (harg5 : arg5.IsWhole)
  (arg6 : Memref sig .tc .vmem S32x128x256 .bf16) (harg6 : arg6.IsWhole)
  (arg7 : Memref sig .tc .vmem S4x4x768x128 .f32) (harg7 : arg7.IsWhole)
  (x0 : Vec Ideal S16x128x1024 .f32) (x1 : Vec Ideal S1x1024 .f32) (x2 : Vec Ideal S1024x512 .bf16) (x3 : Vec Ideal S512x512 .bf16)

/-- The result's block: group, row of sixteen positions, position and column. -/
noncomputable def outAt (y : S32x128x256.Idx) : EReal :=
  xbAt x0 x1 x2 ⟨(y 1).val / 32, by have h : (y 1).val < 128 := (y 1).isLt; omega⟩
    ⟨16 * ((y 1).val % 32) + (y 2).val / 16, by have h : (y 2).val < 256 := (y 2).isLt; omega⟩
    ⟨16 * (y 0).val + (y 2).val % 16, by have h : (y 0).val < 32 := (y 0).isLt; omega⟩

/-- Group `g`, the rows of quarter `s`, one half of the positions. -/
def outRect (g : Fin 32) (s : Fin 4) (half : Fin 2) : Rect S32x128x256 :=
  Rect.unit (s := S32x128x256) ![g, 32 * s, 128 * half] S1x32x128.size
    (by intro a; fin_cases a <;> (simp [S1x32x128, S32x128x256] <;> omega))

/-- The group of placed store `q`. -/
def placedGroup (q : ℕ) (hq : q < 48) : Fin 32 := ⟨8 * (1 + q % 24 / 4 / 2) + 4 * (q / 24) + q % 4, by omega⟩

/-- Store `k` of quarter `s`: sixteen of the first column block, then the others. -/
noncomputable def outOf (L₀ L₁ : List (View.Piece (Elt Ideal) S4x4x768x128 .f32)) (s : Fin 4) (k : ℕ) :
    ℕ → View.Piece (Elt Ideal) S32x128x256 .bf16
  | 0 => ⟨outRect ⟨k % 8, by omega⟩ s ⟨k / 8 % 2, by omega⟩, swapVal arg7 L₀ s ⟨k / 8 % 2, by omega⟩ ⟨k % 8, by omega⟩⟩
  | _ => ⟨outRect (placedGroup ((k - 16) % 48) (Nat.mod_lt _ (by decide))) s ⟨(k - 16) % 48 % 24 / 4 % 2, by omega⟩,
      placeVal arg5 harg5 arg7 x3 L₁ s ⟨(k - 16) % 48 / 24, by omega⟩ ⟨(k - 16) % 48 % 24 / 4, by omega⟩ ⟨(k - 16) % 48 % 4, by omega⟩⟩

/-- The first `n` stores of a quarter on top of earlier ones, newest first. -/
noncomputable def outStores (L₀ L₁ : List (View.Piece (Elt Ideal) S4x4x768x128 .f32)) (s : Fin 4)
    (rest : List (View.Piece (Elt Ideal) S32x128x256 .bf16)) : ℕ → List (View.Piece (Elt Ideal) S32x128x256 .bf16)
  | 0 => rest
  | k + 1 => outOf arg5 harg5 arg7 x3 L₀ L₁ s k (k / 16) :: outStores L₀ L₁ s rest k

/-- All 256 stores, from the scratch stores before each quarter's loads. -/
noncomputable def allStores (L₁ L₂ L₃ L₄ : List (View.Piece (Elt Ideal) S4x4x768x128 .f32)) :
    List (View.Piece (Elt Ideal) S32x128x256 .bf16) :=
  outStores arg5 harg5 arg7 x3 L₄ L₄ 3 (outStores arg5 harg5 arg7 x3 L₃ L₄ 2 (outStores arg5 harg5 arg7 x3 L₂ L₃ 1
    (outStores arg5 harg5 arg7 x3 L₁ L₂ 0 [] 64) 64) 64) 64

theorem run_eq : (kernelRun0_A (F := Ideal) c i arg2 harg2 arg3 harg3 arg4 harg4 arg5 harg5 arg6 harg6 arg7 harg7 x0 x1 x2 x3).1
    = allStores arg5 harg5 arg7 x3 (kernelRun0_A.sl.HS0_128 (F := Ideal) c arg2 harg2 arg3 harg3 arg4 harg4 x0 x1 x2)
      (kernelRun0_A.sl.HS0_256 (F := Ideal) c arg2 harg2 arg3 harg3 arg4 harg4 x0 x1 x2)
      (kernelRun0_A.sl.HS0_384 (F := Ideal) c arg2 harg2 arg3 harg3 arg4 harg4 x0 x1 x2)
      (kernelRun0_A.sl.HS0_512 (F := Ideal) c arg2 harg2 arg3 harg3 arg4 harg4 x0 x1 x2) := by
  unfold kernelRun0_A
  rfl

theorem mem_outStores (L₀ L₁ : List (View.Piece (Elt Ideal) S4x4x768x128 .f32)) (s : Fin 4)
    (rest : List (View.Piece (Elt Ideal) S32x128x256 .bf16)) (n : ℕ) (p : View.Piece (Elt Ideal) S32x128x256 .bf16) :
    p ∈ outStores arg5 harg5 arg7 x3 L₀ L₁ s rest n
      ↔ p ∈ rest ∨ ∃ k < n, p = outOf arg5 harg5 arg7 x3 L₀ L₁ s k (k / 16) := by
  induction n with
  | zero => simp [outStores]
  | succ n ih =>
    rw [outStores, List.mem_cons, ih]
    constructor
    · rintro (rfl | h | ⟨k, hk, rfl⟩)
      · exact .inr ⟨n, n.lt_succ_self, rfl⟩
      · exact .inl h
      · exact .inr ⟨k, by omega, rfl⟩
    · rintro (h | ⟨k, hk, rfl⟩)
      · exact .inr (.inl h)
      rcases Nat.lt_succ_iff_lt_or_eq.1 hk with h | rfl
      · exact .inr (.inr ⟨k, h, rfl⟩)
      · exact .inl rfl

/-- A store holds the block's entries if its value does, entry by entry. -/
theorem outRect_apply (g : Fin 32) (s : Fin 4) (half : Fin 2) (v : S1x32x128.Idx → EReal)
    (hv : ∀ (u : Fin 1) (r : Fin 32) (l : Fin 128), v (ix3 u r l)
      = xbAt x0 x1 x2 s ⟨16 * r + (8 * half + l / 16), by omega⟩ ⟨16 * g + l % 16, by omega⟩)
    (x : (outRect g s half).shape.Idx) : v x = outAt x0 x1 x2 ((outRect g s half).emb x) := by
  have h0 : (x (0 : Fin 3)).val < 1 := (x (0 : Fin 3)).isLt
  have h1 : (x (1 : Fin 3)).val < 32 := (x (1 : Fin 3)).isLt
  have h2 : (x (2 : Fin 3)).val < 128 := (x (2 : Fin 3)).isLt
  have e0 : (((outRect g s half).emb x (0 : Fin 3)) : ℕ) = g.val + 1 * (x (0 : Fin 3)).val := rfl
  have e1 : (((outRect g s half).emb x (1 : Fin 3)) : ℕ) = 32 * s.val + 1 * (x (1 : Fin 3)).val := rfl
  have e2 : (((outRect g s half).emb x (2 : Fin 3)) : ℕ) = 128 * half.val + 1 * (x (2 : Fin 3)).val := rfl
  refine Eq.trans (congrArg v (funext fun a => ?_)) ((hv (x (0 : Fin 3)) (x (1 : Fin 3)) (x (2 : Fin 3))).trans ?_)
  · fin_cases a <;> rfl
  · unfold outAt
    congr 1 <;> refine Fin.ext ?_
    · show s.val = ((outRect g s half).emb x (1 : Fin 3)).val / 32
      omega
    · show 16 * (x (1 : Fin 3)).val + (8 * half.val + (x (2 : Fin 3)).val / 16)
        = 16 * (((outRect g s half).emb x (1 : Fin 3)).val % 32) + ((outRect g s half).emb x (2 : Fin 3)).val / 16
      omega
    · show 16 * g.val + (x (2 : Fin 3)).val % 16
        = 16 * ((outRect g s half).emb x (0 : Fin 3)).val + ((outRect g s half).emb x (2 : Fin 3)).val % 16
      omega

theorem mem_outRect (g : Fin 32) (s : Fin 4) (half : Fin 2) (y : S32x128x256.Idx) (h0 : (y 0).val = g) (h1 : (y 1).val / 32 = s)
    (h2 : (y 2).val / 128 = half) : y ∈ (outRect g s half).set :=
  Rect.mem_set_unit.2 fun a => by
    fin_cases a
    · exact ⟨by show g.val ≤ (y 0).val; omega, by show (y 0).val < g.val + 1; omega⟩
    · exact ⟨by show 32 * s.val ≤ (y 1).val; omega, by show (y 1).val < 32 * s.val + 32; omega⟩
    · exact ⟨by show 128 * half.val ≤ (y 2).val; omega, by show (y 2).val < 128 * half.val + 128; omega⟩

/-- The placement matrix. -/
def IsPlacement : Prop := ∀ r k : Fin 512, x3 (ix2 r k) = if InHost.Place r k then (1 : EReal) else 0

theorem outOf_apply (hq : IsPlacement x3) (L₀ L₁ : List (View.Piece (Elt Ideal) S4x4x768x128 .f32)) (s : Fin 4)
    (h₀ : Held arg7 x0 x1 x2 L₀ s) (h₁ : Held arg7 x0 x1 x2 L₁ s) (k : ℕ) (hk : k < 64)
    (x : (outOf arg5 harg5 arg7 x3 L₀ L₁ s k (k / 16)).1.shape.Idx) :
    (outOf arg5 harg5 arg7 x3 L₀ L₁ s k (k / 16)).2 x
      = outAt x0 x1 x2 ((outOf arg5 harg5 arg7 x3 L₀ L₁ s k (k / 16)).1.emb x) := by
  revert x
  rcases h : k / 16 with _ | m
  · exact outRect_apply x0 x1 x2 _ _ _ _ fun u r l =>
      swapVal_apply arg7 x0 x1 x2 L₀ s h₀ _ _ u r l
  · refine outRect_apply x0 x1 x2 _ _ _ _ fun u r l => ?_
    refine (placeVal_apply arg5 harg5 arg7 x0 x1 x2 x3 L₁ hq s h₁ _ _ _ u r l).trans ?_
    congr 1
    exact Fin.ext (by simp only [placedGroup]; omega)

theorem mem_outOf (L₀ L₁ : List (View.Piece (Elt Ideal) S4x4x768x128 .f32)) (s : Fin 4) (y : S32x128x256.Idx)
    (hs : (y 1).val / 32 = s) : ∃ k < 64, y ∈ (outOf arg5 harg5 arg7 x3 L₀ L₁ s k (k / 16)).1.set := by
  have h0 : (y 0).val < 32 := (y 0).isLt
  have h2 : (y 2).val < 256 := (y 2).isLt
  by_cases hg : (y 0).val < 8
  · refine ⟨8 * ((y 2).val / 128) + (y 0).val, by omega, ?_⟩
    rw [show (8 * ((y 2).val / 128) + (y 0).val) / 16 = 0 by omega]
    refine mem_outRect _ _ _ y ?_ hs ?_
    · show _ = (8 * ((y 2).val / 128) + (y 0).val) % 8
      omega
    · show _ = (8 * ((y 2).val / 128) + (y 0).val) / 8 % 2
      omega
  · obtain ⟨q, hq, e⟩ : ∃ q < 48, q = 24 * ((y 0).val % 8 / 4) + 4 * (2 * ((y 0).val / 8 - 1) + (y 2).val / 128) + (y 0).val % 4 :=
      ⟨_, by omega, rfl⟩
    refine ⟨q + 16, by omega, ?_⟩
    rw [show (q + 16) / 16 = q / 16 + 1 by omega]
    refine mem_outRect _ _ _ y ?_ hs ?_
    · show _ = 8 * (1 + (q + 16 - 16) % 48 % 24 / 4 / 2) + 4 * ((q + 16 - 16) % 48 / 24) + (q + 16 - 16) % 48 % 4
      omega
    · show _ = (q + 16 - 16) % 48 % 24 / 4 % 2
      omega

/-- The block after all stores. -/
theorem canon_all (hq : IsPlacement x3) (L₁ L₂ L₃ L₄ : List (View.Piece (Elt Ideal) S4x4x768x128 .f32))
    (h₁ : Held arg7 x0 x1 x2 L₁ 0) (h₂ : Held arg7 x0 x1 x2 L₂ 0) (h₂' : Held arg7 x0 x1 x2 L₂ 1) (h₃ : Held arg7 x0 x1 x2 L₃ 1)
    (h₃' : Held arg7 x0 x1 x2 L₃ 2) (h₄ : Held arg7 x0 x1 x2 L₄ 2) (h₄' : Held arg7 x0 x1 x2 L₄ 3) (y : S32x128x256.Idx) :
    View.canon (Val := Elt Ideal) (e := .bf16) (allStores arg5 harg5 arg7 x3 L₁ L₂ L₃ L₄) y = outAt x0 x1 x2 y := by
  have hy : (y 1).val < 128 := (y 1).isLt
  unfold allStores
  refine View.canon_apply_of_pieces (Val := Elt Ideal) (e := .bf16) (outAt x0 x1 x2) _ ?_ y ?_
  · intro p hp
    simp only [mem_outStores, List.not_mem_nil, false_or] at hp
    rcases hp with ((⟨k, hk, rfl⟩ | ⟨k, hk, rfl⟩) | ⟨k, hk, rfl⟩) | ⟨k, hk, rfl⟩
    · exact outOf_apply arg5 harg5 arg7 x0 x1 x2 x3 hq _ _ 0 h₁ h₂ k hk
    · exact outOf_apply arg5 harg5 arg7 x0 x1 x2 x3 hq _ _ 1 h₂' h₃ k hk
    · exact outOf_apply arg5 harg5 arg7 x0 x1 x2 x3 hq _ _ 2 h₃' h₄ k hk
    · exact outOf_apply arg5 harg5 arg7 x0 x1 x2 x3 hq _ _ 3 h₄' h₄' k hk
  · simp only [mem_outStores, List.not_mem_nil, false_or]
    have hc : (y 1).val / 32 = 0 ∨ (y 1).val / 32 = 1 ∨ (y 1).val / 32 = 2 ∨ (y 1).val / 32 = 3 := by omega
    rcases hc with h | h | h | h
    · obtain ⟨k, hk, hm⟩ := mem_outOf arg5 harg5 arg7 x3 L₁ L₂ 0 y h
      exact ⟨_, .inl (.inl (.inl ⟨k, hk, rfl⟩)), hm⟩
    · obtain ⟨k, hk, hm⟩ := mem_outOf arg5 harg5 arg7 x3 L₂ L₃ 1 y h
      exact ⟨_, .inl (.inl (.inr ⟨k, hk, rfl⟩)), hm⟩
    · obtain ⟨k, hk, hm⟩ := mem_outOf arg5 harg5 arg7 x3 L₃ L₄ 2 y h
      exact ⟨_, .inl (.inr ⟨k, hk, rfl⟩), hm⟩
    · obtain ⟨k, hk, hm⟩ := mem_outOf arg5 harg5 arg7 x3 L₄ L₄ 3 y h
      exact ⟨_, .inr ⟨k, hk, rfl⟩, hm⟩

/-- What the block holds, entry by entry. -/
theorem out_apply (hq : IsPlacement x3) (y : S32x128x256.Idx) :
    out0_A_4 (F := Ideal) c i arg2 harg2 arg3 harg3 arg4 harg4 arg5 harg5 arg6 harg6 arg7 harg7 x0 x1 x2 x3 y
      = outAt x0 x1 x2 y := by
  unfold out0_A_4
  rw [View.read_writes_eq_canon _ _ _ (cover0_A_4 c i arg2 harg2 arg3 harg3 arg4 harg4 arg5 harg5 arg6 harg6 arg7 harg7 x0 x1 x2 x3)]
  rw [run_eq, HS0_128_eq, HS0_256_eq, HS0_384_eq, HS0_512_eq]
  have hd (n : ℕ) (s : Fin 4) (hn : 128 * s.val + 128 ≤ n) :=
    held arg2 harg2 arg3 harg3 arg4 harg4 arg7 x0 x1 x2 n s hn
  exact canon_all arg5 harg5 arg7 x0 x1 x2 x3 hq _ _ _ _ (hd _ 0 (by decide)) (hd _ 0 (by decide)) (hd _ 1 (by decide))
    (hd _ 1 (by decide)) (hd _ 2 (by decide)) (hd _ 2 (by decide)) (hd _ 3 (by decide)) y

end Cert.InBlock
-- ==== Proof.InRef.lean ====
/- What the second reference computes: the scan's input, row by row, a projection of a normed row of the residual. -/
module

public import proofs.«01_k».proof.Proof.Gen.Reference2Ideal.Read
public import proofs.«01_k».proof.Proof.Args

@[expose] public section

noncomputable section

namespace Cert.InRef

open Cert.Reference2Ideal Cert.Reference2Ideal.Gen Cert.Reference2Ideal.Read Cert.Chunk Cert.Args Idealize.ShloMosaic
  Idealize.ShloMosaic.TcCoe

variable (x0 : (⟨S32x2048x1024, .f32⟩ : BufTy).Contents (Elt Ideal)) (x1 : (⟨S1x1024, .f32⟩ : BufTy).Contents (Elt Ideal))
  (x2 : (⟨S1x1024x6144, .f32⟩ : BufTy).Contents (Elt Ideal)) (b : Fin 32) (c : Fin 16)

theorem xn_apply (t : Fin 128) (d : Fin 1024) : val_main_v13 (F := Ideal) x0 x1 (ix3 b (pos c t) d) = xnRow x0 x1 b c t d := by
  pointwise [val_main_v13, val_main_v12, val_main_v11, val_main_v10, val_main_v9, val_main_v8, val_main_v7, val_main_v6,
    val_main_v5, val_main_v4, val_main_v3, val_main_v2, val_main_v1, val_main_v0, val_main_cst, val_main_cst_0,
    val_main_cst_1]
  rw [lit_1024, lit_eps]; rfl

theorem proj_apply (t : Fin 128) (j : Fin 6144) :
    val_main_v15 (F := Ideal) x0 x1 x2 (ix3 b (pos c t) j) = dot (xnRow x0 x1 b c t) (mat x2) j := by
  pointwise [val_main_v15, val_main_v14]
  simp only [xn_apply]; rfl

theorem result_apply (g : Fin 32) (i : Fin 8) (p h : Fin 16) :
    val_main_v26 (F := Ideal) x0 x1 x2 (ix3 g ⟨256 * c + 8 * b + i, by omega⟩ ⟨16 * p + h, by omega⟩)
      = dot (xnRow x0 x1 b c ⟨16 * i + p, by omega⟩) (mat x2) ⟨3072 + (16 * g + h), by omega⟩ := by
  pointwise [val_main_v26, val_main_v25, val_main_v24, val_main_v23, val_main_v19]
  rw [← proj_apply]
  exact congrArg _ (congrArg₂ (ix3 b) (Fin.ext (by simp only [pos]; omega)) (Fin.ext (by simp only []; omega)))

end Cert.InRef

end
-- ==== Proof.InResult.lean ====
/- The second call's result: every block it writes is the reference's result there, so its whole output array is. -/
module

public import proofs.«01_k».proof.Proof.InOut
public import proofs.«01_k».proof.Proof.InRef
public import Idealize.ShloMosaic.Lib.Pipeline.ValueKit

@[expose] public section

set_option maxRecDepth 16384

noncomputable section

namespace Cert.InResult

open Cert.Kernel2Ideal Cert.Kernel2Ideal.Gen Cert.Chunk Cert.Args Cert.InBlock Cert.InHost
  Idealize.ShloMosaic Idealize.ShloMosaic.TcCoe

variable (m : (ℓ : Loc nD τ sig) → Buf (Elt Ideal) ℓ) (c : Dev nD) (t : Fin cfg0.N)

/-- The chunk of a grid point. -/
def ch (t : Fin cfg0.N) : Fin 16 := ⟨(grid0.coords t 0).val, (grid0.coords t 0).isLt⟩
/-- The half of the batches of a grid point. -/
def bh (t : Fin cfg0.N) : Fin 2 := ⟨(grid0.coords t 1).val, (grid0.coords t 1).isLt⟩

theorem idx0 : ∀ t : Fin cfg0.N, win0_0.index t = ![(bh t).val, (ch t).val, 0] := by decide +kernel
theorem idx1 : ∀ t : Fin cfg0.N, win0_1.index t = ![0, 0] := by decide +kernel
theorem idx2 : ∀ t : Fin cfg0.N, win0_2.index t = ![0, 6] := by decide +kernel
theorem idx3 : ∀ t : Fin cfg0.N, win0_3.index t = ![0, 0] := by decide +kernel
theorem idx4 : ∀ t : Fin cfg0.N, win0_4.index t = ![0, 2 * (ch t).val + (bh t).val, 0] := by decide +kernel

/-- The batch that row `b` of a grid point's block is. -/
def bat (t : Fin cfg0.N) (b : Fin 16) : Fin 32 := ⟨16 * (bh t).val + b.val, by have := (bh t).isLt; omega⟩

theorem blk0 (b : Fin 16) (p : Fin 128) (d : Fin 1024) : (iblk m c 0 t : S16x128x1024.Idx → EReal) (ix3 b p d)
    = m ((c : Thread nD τ).loc main_arg0) (ix3 (bat t b) (pos (ch t) p) d) := by
  blk_ext [iblk, V_main_arg0, idx0 t, bat, pos]

theorem blk1 (d : Fin 1024) : (iblk m c 1 t : S1x1024.Idx → EReal) (ix2 0 d)
    = (V m c main_v14 : S1x1024.Idx → EReal) (ix2 0 d) := by
  blk_ext [iblk, idx1 t]

theorem blk2 (d : Fin 1024) (j : Fin 512) : (iblk m c 2 t : S1024x512.Idx → EReal) (ix2 d j)
    = (V m c main_v12 : S1024x6144.Idx → EReal) (ix2 d ⟨3072 + j, by omega⟩) := by
  blk_ext [iblk, idx2 t]

theorem blk3 (r k : Fin 512) : (iblk m c 3 t : S512x512.Idx → EReal) (ix2 r k)
    = (V m c main_v47 : S512x512.Idx → EReal) (ix2 r k) := by
  blk_ext [iblk, idx3 t]

/-- The reference's result on a device's arguments. -/
abbrev want : S32x4096x256.Idx → EReal :=
  Cert.Reference2Ideal.Read.val_main_v26 (F := Ideal) (m ((c : Thread nD τ).loc main_arg0)) (m ((c : Thread nD τ).loc main_arg1))
    (m ((c : Thread nD τ).loc main_arg2))

theorem placement : IsPlacement (iblk m c 3 t) := fun r k => (blk3 m c t r k).trans (v47_apply m c r k)

theorem xb_block (s : Fin 4) (r e : Fin 512) : xbAt (iblk m c 0 t) (iblk m c 1 t) (iblk m c 2 t) s r e
    = dot (xnRow (m ((c : Thread nD τ).loc main_arg0)) (m ((c : Thread nD τ).loc main_arg1)) (bat t ⟨4 * s + r / 128, by omega⟩) (ch t)
        ⟨r % 128, by omega⟩) (mat (m ((c : Thread nD τ).loc main_arg2))) ⟨3072 + e, by omega⟩ := by
  unfold xbAt dot xnRow
  refine Finset.sum_congr rfl fun d _ => congrArg₂ (· * ·) ?_ ((blk2 m c t d e).trans (v12_apply m c d e))
  exact congrFun (congrArg₂ rms (funext fun d => blk0 m c t _ _ d) (funext fun d => (blk1 m c t d).trans (v14_apply m c d))) d

/-- The row of the result that row `r` of a grid point's block is. -/
def orow (t : Fin cfg0.N) (r : Fin 128) : Fin 4096 :=
  ⟨256 * (ch t).val + 128 * (bh t).val + r.val, by have := (ch t).isLt; have := (bh t).isLt; omega⟩

/-- Where a block's entry lies in the output array. -/
theorem emb4 (y : S32x128x256.Idx) : ((cfg0.win 4).blk t).view.emb y = ix3 (y 0) (orow t (y 1)) (y 2) := by
  refine funext fun a => Fin.ext ?_
  fin_cases a <;> blk_simp [idx4 t, orow]
  · rfl
  · show (2 * (ch t).val + (bh t).val) * 128 + (y 1).val = 256 * (ch t).val + 128 * (bh t).val + (y 1).val
    omega
  · rfl

theorem outs_apply (y : S32x128x256.Idx) : outsAt0 m c t y = want m c (ix3 (y 0) (orow t (y 1)) (y 2)) := by
  unfold outsAt0
  rw [out_apply _ _ _ _ _ _ _ _ _ _ _ _ _ _ _ _ _ _ (placement m c t)]
  unfold InBlock.outAt
  rw [xb_block]
  have h0 : (y 0).val < 32 := (y 0).isLt
  have h1 : (y 1).val < 128 := (y 1).isLt
  have h2 : (y 2).val < 256 := (y 2).isLt
  have hb : (bh t).val < 2 := (bh t).isLt
  refine Eq.trans ?_ ((InRef.result_apply (m ((c : Thread nD τ).loc main_arg0)) (m ((c : Thread nD τ).loc main_arg1))
    (m ((c : Thread nD τ).loc main_arg2)) (bat t ⟨(y 1).val / 8, by omega⟩) (ch t) (y 0) ⟨(y 1).val % 8, by omega⟩
    ⟨(y 2).val / 16, by omega⟩ ⟨(y 2).val % 16, by omega⟩).symm.trans ?_)
  · refine congrArg₂ (fun b p => dot (xnRow (m ((c : Thread nD τ).loc main_arg0)) (m ((c : Thread nD τ).loc main_arg1)) b (ch t) p)
      (mat (m ((c : Thread nD τ).loc main_arg2))) ⟨3072 + (16 * (y 0).val + (y 2).val % 16), by omega⟩) (Fin.ext ?_) (Fin.ext ?_)
    · simp only [bat]
      omega
    · simp only []
      omega
  · refine congrArg₂ (fun r l => want m c (ix3 (y 0) r l)) (Fin.ext ?_) (Fin.ext ?_)
    · simp only [bat, orow]
      omega
    · simp only []
      omega

/-- The output array after the run is the reference's result. -/
theorem result_eq : (dats m 0 c).arrAt 4 cfg0.N = want m c := by
  refine (dats m 0 c).arrAt_eq_of_covers 4 _ (by decide +kernel) fun t hf y => ?_
  blk_simp
  rw [after0_4]
  exact (outs_apply m c t y).trans (congrArg (want m c) (emb4 t y).symm)

end Cert.InResult

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Kernel3.Frame
public import proofs.«01_k».proof.Proof.Gen.Kernel3Ideal.Frame
public import proofs.«01_k».proof.Proof.Gen.Reference2Ideal.Run
public import proofs.«01_k».proof.Proof.Gen.Reference2Ideal.Read
public import proofs.«01_k».proof.Proof.Result
public import proofs.«01_k».proof.Proof.InResult
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- What the reference leaves in its result, on arguments that agree with the kernel's. -/
theorem reference_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5)
      = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6)
      = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7)
      = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8)
      = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9)
      = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10)
      = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11)
      = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12)
      = m ((c.tc : Thread Cert.KernelIdeal.nD Cert.KernelIdeal.τ).loc Cert.KernelIdeal.main_arg12))
    : Cert.ReferenceIdeal.Read.val_main_v157 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10))
        (m' ((c.tc : Thread Cert.ReferenceIdeal.nD Cert.ReferenceIdeal.τ).loc Cert.ReferenceIdeal.main_arg11))
        (m' ((c.tc : Thread Cert.ReferenceIdeal.nD Cert.ReferenceIdeal.τ).loc Cert.ReferenceIdeal.main_arg12))
      = Cert.Result.want m c := by
  rw [h0, h1, h2, h3, h4, h5, h6, h7, h8, h9, h10, h11, h12]

/-- The reference's frame: its operations keep the arguments, and its signature names no counter. -/
theorem frame_reference : Cert.quiescent_ReferenceIdeal := fun m g _ =>
  (θ_run _ _ _).mono (fun r h => ⟨fun c => (h c).2, sem_eq_zero_of_no_sems rfl r.2⟩) (Cert.ReferenceIdeal.Value.run m g)

/-- The kernel's output array is the reference's result, the arguments the precondition names being finite. -/
theorem algebraic : Cert.algebraic_KernelIdeal_ReferenceIdeal_pre_finite := by
  intro m g m' g' hpre hagree
  refine ⟨fun c => Cert.Result.want m c, ?_, ?_⟩
  · refine (θ_run _ _ _).mono (fun r h c => ?_) (Cert.KernelIdeal.Value.run_blocks m g)
    obtain ⟨hv, hk⟩ := h c
    exact ⟨hv.trans (Cert.Result.result_eq m c (Cert.Finite.reals m hpre c)), hk⟩
  · refine (θ_run _ _ _).mono (fun r h c => ?_) (Cert.ReferenceIdeal.Value.run m' g')
    obtain ⟨hv, hk⟩ := h c
    obtain ⟨h0, h1, h2, h3, h4, h5, h6, h7, h8, h9, h10, h11, h12⟩ := hagree c
    exact ⟨(hv.trans (Cert.ReferenceIdeal.Read.val_main_v157_eq _)).trans
      (reference_result m m' c h0 h1 h2 h3 h4 h5 h6 h7 h8 h9 h10 h11 h12), hk⟩

/-- What the second reference leaves in its result, on arguments that agree with the second kernel's. -/
theorem reference2_result (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ)
    (c : Dev Cert.Kernel2Ideal.nD)
    (h0 : m' ((c.tc : Thread Cert.Reference2Ideal.nD Cert.Reference2Ideal.τ).loc Cert.Reference2Ideal.main_arg0)
      = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1)
      = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2)
      = m ((c.tc : Thread Cert.Kernel2Ideal.nD Cert.Kernel2Ideal.τ).loc Cert.Kernel2Ideal.main_arg2))
    : Cert.Reference2Ideal.Read.val_main_v26 (F := Ideal)
        (m' ((c.tc : Thread Cert.Reference2Ideal.nD Cert.Reference2Ideal.τ).loc Cert.Reference2Ideal.main_arg0))
        (m' ((c.tc : Thread Cert.Reference2Ideal.nD Cert.Reference2Ideal.τ).loc Cert.Reference2Ideal.main_arg1))
        (m' ((c.tc : Thread Cert.Reference2Ideal.nD Cert.Reference2Ideal.τ).loc Cert.Reference2Ideal.main_arg2))
      = Cert.InResult.want m c := by
  rw [h0, h1, h2]

/-- The second reference's frame. -/
theorem frame_reference2 : Cert.quiescent_Reference2Ideal := fun m g _ =>
  (θ_run _ _ _).mono (fun r h => ⟨fun c => (h c).2, sem_eq_zero_of_no_sems rfl r.2⟩) (Cert.Reference2Ideal.Value.run m g)

/-- The second kernel's output array is the second reference's result, on any arguments. -/
theorem algebraic2 : Cert.algebraic_Kernel2Ideal_Reference2Ideal := by
  intro m g m' g' _ hagree
  refine ⟨fun c => Cert.InResult.want m c, ?_, ?_⟩
  · refine (θ_run _ _ _).mono (fun r h c => ?_) (Cert.Kernel2Ideal.Value.run_blocks m g)
    obtain ⟨hv, hk⟩ := h c
    exact ⟨hv.trans (Cert.InResult.result_eq m c), hk⟩
  · refine (θ_run _ _ _).mono (fun r h c => ?_) (Cert.Reference2Ideal.Value.run m' g')
    obtain ⟨hv, hk⟩ := h c
    obtain ⟨h0, h1, h2⟩ := hagree c
    exact ⟨(hv.trans (Cert.Reference2Ideal.Read.val_main_v26_eq _ _ _)).trans (reference2_result m m' c h0 h1 h2), hk⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Pre_finite.Gen.facts,
  fun m g _ => Cert.Kernel.Gen.frame m g, fun m g _ => Cert.KernelIdeal.Gen.frame m g,
  fun m g _ => Cert.KernelIdeal.Gen.frame m g, frame_reference, fun m g _ => frame_reference m g trivial,
  fun m g _ => Cert.Kernel2.Gen.frame m g, fun m g _ => Cert.Kernel2Ideal.Gen.frame m g, frame_reference2,
  fun m g _ => Cert.Kernel3.Gen.frame m g, fun m g _ => Cert.Kernel3Ideal.Gen.frame m g,
  IdealRules.named_const.statement Cert.KernelIdeal.κ "gelu_cubic" .f32 0x3E922279#32 _ rfl,
  algebraic, trivial, algebraic2, trivial⟩

end Cert.Proof

end
